-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![32, 256, 768]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 256]⟩ ⟨2, ![768, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 256]⟩ ⟨2, ![768, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 256]⟩ ⟨2, ![768, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 768]⟩ ⟨2, ![4096, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = Layout.block ⟨3, ![2, 256, 768]⟩ ⟨3, ![32, 256, 768]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v91) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x256 : Shape := ⟨2, ![768, 256]⟩
abbrev S256x768 : Shape := ⟨2, ![256, 768]⟩
abbrev S256x256 : Shape := ⟨2, ![256, 256]⟩
abbrev S512x768 : Shape := ⟨2, ![512, 768]⟩
abbrev S768x768 : Shape := ⟨2, ![768, 768]⟩
abbrev S1024x768 : Shape := ⟨2, ![1024, 768]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S1x256x1x64 : Shape := ⟨4, ![1, 256, 1, 64]⟩
abbrev S2x256x4x64 : Shape := ⟨4, ![2, 256, 4, 64]⟩
abbrev S512x256 : Shape := ⟨2, ![512, 256]⟩
abbrev S16x1024x768 : Shape := ⟨3, ![16, 1024, 768]⟩
abbrev S8 : Shape := ⟨1, ![8]⟩
abbrev S7 : Shape := ⟨1, ![7]⟩
abbrev S1x1024x768 : Shape := ⟨3, ![1, 1024, 768]⟩
abbrev S1 : Shape := ⟨1, ![1]⟩

abbrev nBuf : Space → Nat
  | .hbm => 48
  | .vmem => 8
  | .smem => 0
  | _ => 0

abbrev bufTy : (tb : Table) → Fin (tcTables nBuf tb) → BufTy
  | .hbm, ⟨0, _⟩ => ⟨S2x256x768, .bf16⟩
  | .hbm, ⟨1, _⟩ => ⟨S768x256, .bf16⟩
  | .hbm, ⟨2, _⟩ => ⟨S768x256, .bf16⟩
  | .hbm, ⟨3, _⟩ => ⟨S768x256, .bf16⟩
  | .hbm, ⟨4, _⟩ => ⟨S256x768, .bf16⟩
  | .hbm, ⟨5, _⟩ => ⟨S256x256, .f32⟩
  | .hbm, ⟨6, _⟩ => ⟨S512x768, .bf16⟩
  | .hbm, ⟨7, _⟩ => ⟨S768x768, .bf16⟩
  | .hbm, ⟨8, _⟩ => ⟨S1024x768, .bf16⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S256, .i32⟩
  | .hbm, ⟨27, _⟩ => ⟨S256x1, .i32⟩
  | .hbm, ⟨28, _⟩ => ⟨S1x32, .f32⟩
  | .hbm, ⟨29, _⟩ => ⟨S256x1, .f32⟩
  | .hbm, ⟨30, _⟩ => ⟨S256x32, .f32⟩
  | .hbm, ⟨31, _⟩ => ⟨S256x32, .f32⟩
  | .hbm, ⟨32, _⟩ => ⟨S256x32, .f32⟩
  | .hbm, ⟨33, _⟩ => ⟨S256x32, .f32⟩
  | .hbm, ⟨34, _⟩ => ⟨S256x32x2, .f32⟩
  | .hbm, ⟨35, _⟩ => ⟨S256x64, .f32⟩
  | .hbm, ⟨36, _⟩ => ⟨S256x32, .f32⟩
  | .hbm, ⟨37, _⟩ => ⟨S256x32x2, .f32⟩
  | .hbm, ⟨38, _⟩ => ⟨S256x64, .f32⟩
  | .hbm, ⟨39, _⟩ => ⟨S1x256x1x64, .f32⟩
  | .hbm, ⟨40, _⟩ => ⟨S2x256x4x64, .f32⟩
  | .hbm, ⟨41, _⟩ => ⟨S512x256, .f32⟩
  | .hbm, ⟨42, _⟩ => ⟨S1x256x1x64, .f32⟩
  | .hbm, ⟨43, _⟩ => ⟨S2x256x4x64, .f32⟩
  | .hbm, ⟨44, _⟩ => ⟨S512x256, .f32⟩
  | .hbm, ⟨45, _⟩ => ⟨S256x256, .bf16⟩
  | .hbm, ⟨46, _⟩ => ⟨S512x768, .f32⟩
  | .hbm, ⟨47, _⟩ => ⟨S2x256x768, .f32⟩
  | .local _ .vmem, ⟨0, _⟩ => ⟨S512x768, .bf16⟩
  | .local _ .vmem, ⟨1, _⟩ => ⟨S1024x768, .bf16⟩
  | .local _ .vmem, ⟨2, _⟩ => ⟨S512x256, .f32⟩
  | .local _ .vmem, ⟨3, _⟩ => ⟨S512x256, .f32⟩
  | .local _ .vmem, ⟨4, _⟩ => ⟨S256x256, .bf16⟩
  | .local _ .vmem, ⟨5, _⟩ => ⟨S512x768, .f32⟩
  | .local _ .vmem, ⟨6, _⟩ => ⟨S16x1024x768, .bf16⟩
  | .local _ .vmem, ⟨7, _⟩ => ⟨S512x768, .f32⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v23 : Index := Scalar.indexCast v2
  let c0_19 : Index := 0#32
  let c0_20 : Index := 0#32
  ![v23.toNat, 0, 0]
def k0_off2 (d0 : Dev nD) (c0_i32_21 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v27 : BitVec 32 := Scalar.subi v2 c0_i32_21
  let c32_i32 : BitVec 32 := 32#32
  let v28 : BitVec 32 := Scalar.addi v27 c32_i32
  let c16_i32_22 : BitVec 32 := 16#32
  let v29 : BitVec 32 := Scalar.remsi v28 c16_i32_22
  let c0_i32_27 : BitVec 32 := 0#32
  let c0_i32_28 : BitVec 32 := 0#32
  ![v29.toNat, 0, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_25 : BitVec 32 := 1#32
  let v30 : BitVec 32 := Scalar.muli v7 c1_i32_25
  let v31 : BitVec 32 := Scalar.addi c0_i32_26 v30
  v31.toNat
def k0_off3 (d0 : Dev nD) (c0_i32_31 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v40 : BitVec 32 := Scalar.addi v2 c0_i32_31
  let c16_i32_32 : BitVec 32 := 16#32
  let v41 : BitVec 32 := Scalar.remsi v40 c16_i32_32
  let c0_i32_37 : BitVec 32 := 0#32
  let c0_i32_38 : BitVec 32 := 0#32
  ![v41.toNat, 0, 0]
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_35 : BitVec 32 := 1#32
  let v42 : BitVec 32 := Scalar.muli v5 c1_i32_35
  let v43 : BitVec 32 := Scalar.addi c0_i32_36 v42
  v43.toNat
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_104 : BitVec 32 := 1#32
  let v232 : BitVec 32 := Scalar.muli v7 c1_i32_104
  let v233 : BitVec 32 := Scalar.addi c0_i32_105 v232
  v233.toNat
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_124 : BitVec 32 := 1#32
  let v254 : BitVec 32 := Scalar.muli v5 c1_i32_124
  let v255 : BitVec 32 := Scalar.addi c0_i32_125 v254
  v255.toNat
def k0_off4 (d0 : Dev nD) (c0_i32_131 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_130 : BitVec 32 := 1#32
  let v264 : BitVec 32 := Scalar.subi v2 c1_i32_130
  let v265 : BitVec 32 := Scalar.subi v264 c0_i32_131
  let c32_i32_132 : BitVec 32 := 32#32
  let v266 : BitVec 32 := Scalar.addi v265 c32_i32_132
  let c16_i32_133 : BitVec 32 := 16#32
  let v267 : BitVec 32 := Scalar.remsi v266 c16_i32_133
  let v268 : Index := Scalar.indexCast v267
  let c0_134 : Index := 0#32
  let c0_135 : Index := 0#32
  ![v268.toNat, 0, 0]
def k0_off5 (d0 : Dev nD) (c0_i32_185 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_184 : BitVec 32 := 1#32
  let v436 : BitVec 32 := Scalar.addi v2 c1_i32_184
  let v437 : BitVec 32 := Scalar.addi v436 c0_i32_185
  let c16_i32_186 : BitVec 32 := 16#32
  let v438 : BitVec 32 := Scalar.remsi v437 c16_i32_186
  let v439 : Index := Scalar.indexCast v438
  let c0_187 : Index := 0#32
  let c0_188 : Index := 0#32
  ![v439.toNat, 0, 0]
def k0_dev7 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_253 : BitVec 32 := 1#32
  let v621 : BitVec 32 := Scalar.muli v7 c1_i32_253
  let v622 : BitVec 32 := Scalar.addi c0_i32_254 v621
  v622.toNat
def k0_dev8 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_273 : BitVec 32 := 1#32
  let v643 : BitVec 32 := Scalar.muli v5 c1_i32_273
  let v644 : BitVec 32 := Scalar.addi c0_i32_274 v643
  v644.toNat
def k0_dev9 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_401 : BitVec 32 := 1#32
  let v1010 : BitVec 32 := Scalar.muli v7 c1_i32_401
  let v1011 : BitVec 32 := Scalar.addi c0_i32_402 v1010
  v1011.toNat
def k0_dev10 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_421 : BitVec 32 := 1#32
  let v1032 : BitVec 32 := Scalar.muli v5 c1_i32_421
  let v1033 : BitVec 32 := Scalar.addi c0_i32_422 v1032
  v1033.toNat
def k0_dev11 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_549 : BitVec 32 := 1#32
  let v1399 : BitVec 32 := Scalar.muli v7 c1_i32_549
  let v1400 : BitVec 32 := Scalar.addi c0_i32_550 v1399
  v1400.toNat
def k0_dev12 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_569 : BitVec 32 := 1#32
  let v1421 : BitVec 32 := Scalar.muli v5 c1_i32_569
  let v1422 : BitVec 32 := Scalar.addi c0_i32_570 v1421
  v1422.toNat
def k0_dev13 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_697 : BitVec 32 := 1#32
  let v1788 : BitVec 32 := Scalar.muli v7 c1_i32_697
  let v1789 : BitVec 32 := Scalar.addi c0_i32_698 v1788
  v1789.toNat
def k0_dev14 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_717 : BitVec 32 := 1#32
  let v1810 : BitVec 32 := Scalar.muli v5 c1_i32_717
  let v1811 : BitVec 32 := Scalar.addi c0_i32_718 v1810
  v1811.toNat
def k0_dev15 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_845 : BitVec 32 := 1#32
  let v2177 : BitVec 32 := Scalar.muli v7 c1_i32_845
  let v2178 : BitVec 32 := Scalar.addi c0_i32_846 v2177
  v2178.toNat
def k0_dev16 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_865 : BitVec 32 := 1#32
  let v2199 : BitVec 32 := Scalar.muli v5 c1_i32_865
  let v2200 : BitVec 32 := Scalar.addi c0_i32_866 v2199
  v2200.toNat
def k0_dev17 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_993 : BitVec 32 := 1#32
  let v2566 : BitVec 32 := Scalar.muli v7 c1_i32_993
  let v2567 : BitVec 32 := Scalar.addi c0_i32_994 v2566
  v2567.toNat
abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32x256x768 : Shape := ⟨3, ![32, 256, 768]⟩
abbrev S768x4096 : Shape := ⟨2, ![768, 4096]⟩
abbrev S4096x768 : Shape := ⟨2, ![4096, 768]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S32x256x4096 : Shape := ⟨3, ![32, 256, 4096]⟩
abbrev S32x256x64x64 : Shape := ⟨4, ![32, 256, 64, 64]⟩
abbrev S32x256x64x32x2 : Shape := ⟨5, ![32, 256, 64, 32, 2]⟩
abbrev S32x256x64x32x1 : Shape := ⟨5, ![32, 256, 64, 32, 1]⟩
abbrev S32x256x64x32 : Shape := ⟨4, ![32, 256, 64, 32]⟩
abbrev S1x256x1x64 : Shape := ⟨4, ![1, 256, 1, 64]⟩
abbrev S32x64x256x256 : Shape := ⟨4, ![32, 64, 256, 256]⟩
abbrev S32x64x256 : Shape := ⟨3, ![32, 64, 256]⟩
abbrev S32x64x256x1 : Shape := ⟨4, ![32, 64, 256, 1]⟩
abbrev S32x64x64x256 : Shape := ⟨4, ![32, 64, 64, 256]⟩

abbrev nBuf : Space → Nat
  | .hbm => 105
  | .vmem => 0
  | .smem => 0
  | _ => 0

abbrev bufTy : (tb : Table) → Fin (tcTables nBuf tb) → BufTy
  | .hbm, ⟨0, _⟩ => ⟨S32x256x768, .bf16⟩
  | .hbm, ⟨1, _⟩ => ⟨S768x4096, .bf16⟩
  | .hbm, ⟨2, _⟩ => ⟨S768x4096, .bf16⟩
  | .hbm, ⟨3, _⟩ => ⟨S768x4096, .bf16⟩
  | .hbm, ⟨4, _⟩ => ⟨S4096x768, .bf16⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S256, .i32⟩
  | .hbm, ⟨23, _⟩ => ⟨S256x1, .i32⟩
  | .hbm, ⟨24, _⟩ => ⟨S1x32, .f32⟩
  | .hbm, ⟨25, _⟩ => ⟨S256x1, .f32⟩
  | .hbm, ⟨26, _⟩ => ⟨S256x32, .f32⟩
  | .hbm, ⟨27, _⟩ => ⟨S256x32, .f32⟩
  | .hbm, ⟨28, _⟩ => ⟨S256x32, .f32⟩
  | .hbm, ⟨29, _⟩ => ⟨S256x32, .f32⟩
  | .hbm, ⟨30, _⟩ => ⟨S256x32x2, .f32⟩
  | .hbm, ⟨31, _⟩ => ⟨S256x64, .f32⟩
  | .hbm, ⟨32, _⟩ => ⟨S256x32, .f32⟩
  | .hbm, ⟨33, _⟩ => ⟨S256x32x2, .f32⟩
  | .hbm, ⟨34, _⟩ => ⟨S256x64, .f32⟩
  | .hbm, ⟨35, _⟩ => ⟨S32x256x768, .f32⟩
  | .hbm, ⟨36, _⟩ => ⟨S768x4096, .f32⟩
  | .hbm, ⟨37, _⟩ => ⟨S768x4096, .f32⟩
  | .hbm, ⟨38, _⟩ => ⟨S768x4096, .f32⟩
  | .hbm, ⟨39, _⟩ => ⟨S4096x768, .f32⟩
  | .hbm, ⟨40, _⟩ => ⟨S32x256x4096, .f32⟩
  | .hbm, ⟨41, _⟩ => ⟨S32x256x4096, .bf16⟩
  | .hbm, ⟨42, _⟩ => ⟨S32x256x4096, .f32⟩
  | .hbm, ⟨43, _⟩ => ⟨S32x256x64x64, .f32⟩
  | .hbm, ⟨44, _⟩ => ⟨S32x256x64x32x2, .f32⟩
  | .hbm, ⟨45, _⟩ => ⟨S32x256x64x32x1, .f32⟩
  | .hbm, ⟨46, _⟩ => ⟨S32x256x64x32, .f32⟩
  | .hbm, ⟨47, _⟩ => ⟨S32x256x64x32, .f32⟩
  | .hbm, ⟨48, _⟩ => ⟨S32x256x64x32x1, .f32⟩
  | .hbm, ⟨49, _⟩ => ⟨S32x256x64x32, .f32⟩
  | .hbm, ⟨50, _⟩ => ⟨S32x256x64x32x1, .f32⟩
  | .hbm, ⟨51, _⟩ => ⟨S32x256x64x32x1, .f32⟩
  | .hbm, ⟨52, _⟩ => ⟨S32x256x64x32x2, .f32⟩
  | .hbm, ⟨53, _⟩ => ⟨S32x256x64x64, .f32⟩
  | .hbm, ⟨54, _⟩ => ⟨S1x256x1x64, .f32⟩
  | .hbm, ⟨55, _⟩ => ⟨S32x256x64x64, .f32⟩
  | .hbm, ⟨56, _⟩ => ⟨S32x256x64x64, .f32⟩
  | .hbm, ⟨57, _⟩ => ⟨S1x256x1x64, .f32⟩
  | .hbm, ⟨58, _⟩ => ⟨S32x256x64x64, .f32⟩
  | .hbm, ⟨59, _⟩ => ⟨S32x256x64x64, .f32⟩
  | .hbm, ⟨60, _⟩ => ⟨S32x256x64x64, .f32⟩
  | .hbm, ⟨61, _⟩ => ⟨S32x256x4096, .f32⟩
  | .hbm, ⟨62, _⟩ => ⟨S32x256x4096, .bf16⟩
  | .hbm, ⟨63, _⟩ => ⟨S32x256x4096, .f32⟩
  | .hbm, ⟨64, _⟩ => ⟨S32x256x64x64, .f32⟩
  | .hbm, ⟨65, _⟩ => ⟨S32x256x64x32x2, .f32⟩
  | .hbm, ⟨66, _⟩ => ⟨S32x256x64x32x1, .f32⟩
  | .hbm, ⟨67, _⟩ => ⟨S32x256x64x32, .f32⟩
  | .hbm, ⟨68, _⟩ => ⟨S32x256x64x32, .f32⟩
  | .hbm, ⟨69, _⟩ => ⟨S32x256x64x32x1, .f32⟩
  | .hbm, ⟨70, _⟩ => ⟨S32x256x64x32, .f32⟩
  | .hbm, ⟨71, _⟩ => ⟨S32x256x64x32x1, .f32⟩
  | .hbm, ⟨72, _⟩ => ⟨S32x256x64x32x1, .f32⟩
  | .hbm, ⟨73, _⟩ => ⟨S32x256x64x32x2, .f32⟩
  | .hbm, ⟨74, _⟩ => ⟨S32x256x64x64, .f32⟩
  | .hbm, ⟨75, _⟩ => ⟨S1x256x1x64, .f32⟩
  | .hbm, ⟨76, _⟩ => ⟨S32x256x64x64, .f32⟩
  | .hbm, ⟨77, _⟩ => ⟨S32x256x64x64, .f32⟩
  | .hbm, ⟨78, _⟩ => ⟨S1x256x1x64, .f32⟩
  | .hbm, ⟨79, _⟩ => ⟨S32x256x64x64, .f32⟩
  | .hbm, ⟨80, _⟩ => ⟨S32x256x64x64, .f32⟩
  | .hbm, ⟨81, _⟩ => ⟨S32x256x64x64, .f32⟩
  | .hbm, ⟨82, _⟩ => ⟨S32x256x4096, .f32⟩
  | .hbm, ⟨83, _⟩ => ⟨S32x256x4096, .bf16⟩
  | .hbm, ⟨84, _⟩ => ⟨S32x256x4096, .f32⟩
  | .hbm, ⟨85, _⟩ => ⟨S32x256x64x64, .f32⟩
  | .hbm, ⟨86, _⟩ => ⟨S32x64x256x256, .f32⟩
  | .hbm, ⟨87, _⟩ => ⟨S_, .f32⟩
  | .hbm, ⟨88, _⟩ => ⟨S32x64x256x256, .f32⟩
  | .hbm, ⟨89, _⟩ => ⟨S32x64x256x256, .f32⟩
  | .hbm, ⟨90, _⟩ => ⟨S_, .f32⟩
  | .hbm, ⟨91, _⟩ => ⟨S32x64x256, .f32⟩
  | .hbm, ⟨92, _⟩ => ⟨S32x64x256x1, .f32⟩
  | .hbm, ⟨93, _⟩ => ⟨S32x64x256x256, .f32⟩
  | .hbm, ⟨94, _⟩ => ⟨S32x64x256x256, .f32⟩
  | .hbm, ⟨95, _⟩ => ⟨S32x64x256x256, .f32⟩
  | .hbm, ⟨96, _⟩ => ⟨S_, .f32⟩
  | .hbm, ⟨97, _⟩ => ⟨S32x64x256, .f32⟩
  | .hbm, ⟨98, _⟩ => ⟨S32x64x256x1, .f32⟩
  | .hbm, ⟨99, _⟩ => ⟨S32x64x256x256, .f32⟩
  | .hbm, ⟨100, _⟩ => ⟨S32x64x256x256, .f32⟩
  | .hbm, ⟨101, _⟩ => ⟨S32x64x64x256, .f32⟩
  | .hbm, ⟨102, _⟩ => ⟨S32x256x64x64, .f32⟩
  | .hbm, ⟨103, _⟩ => ⟨S32x256x4096, .f32⟩
  | .hbm, ⟨104, _⟩ => ⟨S32x256x768, .f32⟩
  | _, _ => ⟨S32x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_3 : Ref sig .tc := ⟨.hbm, 87, rfl⟩
abbrev main_v77 : Ref sig .tc := ⟨.hbm, 88, rfl⟩
abbrev main_v78 : Ref sig .tc := ⟨.hbm, 89, rfl⟩
abbrev main_cst_4 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_5 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩

abbrev nD : Nat := 1
abbrev τ : Topo := Topo.v7x

variable {F : FTy → Type} [FloatOps F]
-- ==== Proof.Chunk.lean ====
/-
# What the kernel computes from one weight block

`contrib x cos sin rot w` is the one contribution of a weight block `w` (the three projections' columns of one
group of heads side by side, over the rows of the output projection) to a device's output rows: the projections,
the rotation of queries and keys, the attention of each of the 2 × 4 (batch row, head) pairs, and the output
projection. Stated in the kernel's own operations, at any float values.
-/
module

public import proofs.«01_k».proof.Proof.Gen.KernelIdeal

@[expose] public section

noncomputable section

namespace Cert.KernelIdeal.Ring

open Cert.KernelIdeal Cert.KernelIdeal.Gen
open Idealize.ShloMosaic Idealize.SL.Sem

variable {F : FTy → Type} [FloatOps F]

/-- The projections of the input rows by the block's first 768 rows: queries, keys and values side by side. -/
def proj (x : FVec F S512x768 .bf16) (w : FVec F S1024x768 .bf16) : FVec F S512x768 .f32 :=
  matmul dot_S512x768_S768x768_S512x768_1_0_0_1_n_n none x
    (extractStridedSlice S768x768 ![0, 0] w slices_S1024x768_o0_0_S768x768) (constant S512x768 .f32 0x00000000#32)

/-- The rotation of a 512 × 256 array by the angles whose cosines and sines are given: `t · cos + (t rot) · sin`. -/
def rope (cos sin : FVec F S512x256 .f32) (rot : FVec F S256x256 .bf16) (t : FVec F S512x256 .f32) : FVec F S512x256 .bf16 :=
  truncf .bf16 (addf (mulf t cos) (mulf (matmul dot_S512x256_S256x256_S512x256_1_0_0_1_n_n none (truncf .bf16 t bitsLt_bf16_f32) rot
    (constant S512x256 .f32 0x00000000#32)) sin)) bitsLt_bf16_f32

/-- The scaled scores of one head. -/
def scores (q k : FVec F S256x64 .bf16) : FVec F S256x256 .f32 :=
  mulf (matmul dot_S256x64_S256x64_S256x256_1_1_0_0_n_n none q k (constant S256x256 .f32 0x00000000#32))
    (broadcast S256x256 (Scalar.ofBits .f32 0x3E000000#32))

/-- The exponentials of the scores, each row shifted by its maximum. -/
def expShift (s : FVec F S256x256 .f32) : FVec F S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- Each row divided by its sum. -/
def normalise (e : FVec F S256x256 .f32) : FVec F S256x256 .bf16 :=
  truncf .bf16 (divf e (broadcastTo S256x256 (shapeCast S256x1 (multiReduction .add [1] S256 e 0x00000000#32 reduces_S256x256_S256 (.inl rfl) rfl)
    shapeCasts_S256_S256x1) broadcasts_S256x1_S256x256)) bitsLt_bf16_f32

/-- One head's attention: the normalised exponentials against the values. -/
def head (q k v : FVec F S256x64 .bf16) : FVec F S256x64 .f32 :=
  matmul dot_S256x256_S256x64_S256x64_1_0_0_1_n_n none (normalise (expShift (scores q k))) v (constant S256x64 .f32 0x00000000#32)

/-- The head whose rows and columns begin at `o`. -/
def headAt (o : Fin 2 → Nat) (h : S512x256.Slices o S256x64) (q k v : FVec F S512x256 .bf16) : FVec F S256x64 .f32 :=
  head (extractStridedSlice S256x64 o q h) (extractStridedSlice S256x64 o k h) (extractStridedSlice S256x64 o v h)

/-- The attention of the 2 × 4 heads, in their places. -/
def context (q k v : FVec F S512x256 .bf16) : FVec F S512x256 .f32 :=
  concatenate S512x256 0
    [⟨S256x256, concatenate S256x256 1 [⟨S256x64, headAt ![0, 0] slices_S512x256_o0_0_S256x64 q k v⟩, ⟨S256x64, headAt ![0, 64] slices_S512x256_o0_64_S256x64 q k v⟩,
        ⟨S256x64, headAt ![0, 128] slices_S512x256_o0_128_S256x64 q k v⟩, ⟨S256x64, headAt ![0, 192] slices_S512x256_o0_192_S256x64 q k v⟩]
        concatenates_S256x64_S256x64_S256x64_S256x64_S256x256_d1⟩,
     ⟨S256x256, concatenate S256x256 1 [⟨S256x64, headAt ![256, 0] slices_S512x256_o256_0_S256x64 q k v⟩, ⟨S256x64, headAt ![256, 64] slices_S512x256_o256_64_S256x64 q k v⟩,
        ⟨S256x64, headAt ![256, 128] slices_S512x256_o256_128_S256x64 q k v⟩, ⟨S256x64, headAt ![256, 192] slices_S512x256_o256_192_S256x64 q k v⟩]
        concatenates_S256x64_S256x64_S256x64_S256x64_S256x256_d1⟩]
    concatenates_S256x256_S256x256_S512x256_d0

/-- A block's contribution to the output rows. -/
def contrib (x : FVec F S512x768 .bf16) (cos sin : FVec F S512x256 .f32) (rot : FVec F S256x256 .bf16) (w : FVec F S1024x768 .bf16) :
    FVec F S512x768 .f32 :=
  matmul dot_S512x256_S256x768_S512x768_1_0_0_1_n_n none
    (truncf .bf16 (context
      (rope cos sin rot (extractStridedSlice S512x256 ![0, 0] (proj x w) slices_S512x768_o0_0_S512x256))
      (rope cos sin rot (extractStridedSlice S512x256 ![0, 256] (proj x w) slices_S512x768_o0_256_S512x256))
      (truncf .bf16 (extractStridedSlice S512x256 ![0, 512] (proj x w) slices_S512x768_o0_512_S512x256) bitsLt_bf16_f32)) bitsLt_bf16_f32)
    (extractStridedSlice S256x768 ![768, 0] w slices_S1024x768_o768_0_S256x768) (constant S512x768 .f32 0x00000000#32)

end Cert.KernelIdeal.Ring

end
-- ==== Proof.RingBody.lean ====
/-
# The kernel's body, step by step

The printed body is one straight line of statements, cut into windows by position. Here it is written again as what
it is: a handshake with both neighbours, the device's own block put into its slot and sent both ways, and eight steps
that take a landed block from either side, forward it, and add its contribution. `body_eq` says that the two are the
same program.
-/
module

public import proofs.«01_k».proof.Proof.Gen.KernelIdeal.Skeleton
public import proofs.«01_k».proof.Proof.Chunk

@[expose] public section

noncomputable section

namespace Cert.KernelIdeal.Ring

open Cert.KernelIdeal Cert.KernelIdeal.Gen
open Idealize.ShloMosaic Idealize.SL.Sem

variable {F : FTy → Type} [FloatOps F]

/-- One slot of the gathered blocks: the rows of the scratch that begin at `off`. -/
abbrev slotAt (wg : Memref sig .tc .vmem S16x1024x768 .bf16) (off : Fin 3 → Nat) (h : ∀ a, off a + S1x1024x768.size a ≤ S16x1024x768.size a) :
    Memref sig .tc .vmem S1024x768 .bf16 :=
  (wg.slice (Rect.unit (s := S16x1024x768) off S1x1024x768.size h) (fun _ => rfl)).squeeze S1024x768 squeezes_S1x1024x768_S1024x768

theorem inb8 (s : Fin 8) : ∀ a, (![s.val] : Fin 1 → Nat) a + S1.size a ≤ S8.size a := by revert s; decide
theorem inb7 (s : Fin 7) : ∀ a, (![s.val] : Fin 1 → Nat) a + S1.size a ≤ S7.size a := by revert s; decide

/-- The semaphore of step `s` in an array of eight, and of seven. -/
abbrev sem8 (a : DmaSems sig S8) (s : Fin 8) : DmaSem sig := ((a.slice (Rect.unit (s := S8) ![s.val] S1.size (inb8 s))).squeeze S_ squeezes_S1_S_).sem
abbrev sem7 (a : DmaSems sig S7) (s : Fin 7) : DmaSem sig := ((a.slice (Rect.unit (s := S7) ![s.val] S1.size (inb7 s))).squeeze S_ squeezes_S1_S_).sem

theorem wordsR (wg : Memref sig .tc .vmem S16x1024x768 .bf16) (hwg : wg.IsWhole) (d : Dev nD) (s : Fin 8) : (slotAt wg (k0_off2 d (BitVec.ofNat 32 s.val)) (k0_off2_inb d s)).view.WordExact :=
  (hwg.wordExact_slice rfl _ (k0_off2_wordsbf16 d s)).reshape _ _
theorem wordsL (wg : Memref sig .tc .vmem S16x1024x768 .bf16) (hwg : wg.IsWhole) (d : Dev nD) (s : Fin 7) : (slotAt wg (k0_off3 d (BitVec.ofNat 32 s.val)) (k0_off3_inb d s)).view.WordExact :=
  (hwg.wordExact_slice rfl _ (k0_off3_wordsbf16 d s)).reshape _ _

/-- Step `s` of the ring to the right: start the copy of slot `d - s`, wait for the one that lands, wait for the one sent. -/
def startR (wg : Memref sig .tc .vmem S16x1024x768 .bf16) (hwg : wg.IsWhole) (rs rr : DmaSems sig S8) (d : Dev nD) (s : Fin 8) : Prog (TpuEff nD τ sig (Elt F) Λ₀ .tc) PUnit :=
  Prog.lift (.enqueueDma (slotAt wg (k0_off2 d (BitVec.ofNat 32 s.val)) (k0_off2_inb d s))
    (.remote (Dev.tc (⟨k0_dev3 d, k0_dev3_lt d⟩ : Dev nD)) (slotAt wg (k0_off2 d (BitVec.ofNat 32 s.val)) (k0_off2_inb d s)) (.dma (sem8 rs s)))
    (.dma (sem8 rr s)) (wordsR wg hwg d s) (wordsR wg hwg d s) ⟨⟨rfl, Or.inl rfl⟩, trivial⟩)
def waitR (wg : Memref sig .tc .vmem S16x1024x768 .bf16) (hwg : wg.IsWhole) (a : DmaSems sig S8) (d : Dev nD) (s : Fin 8) : Prog (TpuEff nD τ sig (Elt F) Λ₀ .tc) PUnit :=
  Prog.lift (.waitDma2 (sem8 a s) (slotAt wg (k0_off2 d (BitVec.ofNat 32 s.val)) (k0_off2_inb d s))
    (slotAt wg (k0_off2 d (BitVec.ofNat 32 s.val)) (k0_off2_inb d s)) (wordsR wg hwg d s) (wordsR wg hwg d s))

/-- Step `s` of the ring to the left, the same with slot `d + s`. -/
def startL (wg : Memref sig .tc .vmem S16x1024x768 .bf16) (hwg : wg.IsWhole) (ls lr : DmaSems sig S7) (d : Dev nD) (s : Fin 7) : Prog (TpuEff nD τ sig (Elt F) Λ₀ .tc) PUnit :=
  Prog.lift (.enqueueDma (slotAt wg (k0_off3 d (BitVec.ofNat 32 s.val)) (k0_off3_inb d s))
    (.remote (Dev.tc (⟨k0_dev4 d, k0_dev4_lt d⟩ : Dev nD)) (slotAt wg (k0_off3 d (BitVec.ofNat 32 s.val)) (k0_off3_inb d s)) (.dma (sem7 ls s)))
    (.dma (sem7 lr s)) (wordsL wg hwg d s) (wordsL wg hwg d s) ⟨⟨rfl, Or.inl rfl⟩, trivial⟩)
def waitL (wg : Memref sig .tc .vmem S16x1024x768 .bf16) (hwg : wg.IsWhole) (a : DmaSems sig S7) (d : Dev nD) (s : Fin 7) : Prog (TpuEff nD τ sig (Elt F) Λ₀ .tc) PUnit :=
  Prog.lift (.waitDma2 (sem7 a s) (slotAt wg (k0_off3 d (BitVec.ofNat 32 s.val)) (k0_off3_inb d s))
    (slotAt wg (k0_off3 d (BitVec.ofNat 32 s.val)) (k0_off3_inb d s)) (wordsL wg hwg d s) (wordsL wg hwg d s))

/-- A load of the block in the slot at `off`. -/
def loadSlot (wg : Memref sig .tc .vmem S16x1024x768 .bf16) (off : Fin 3 → Nat) (h : ∀ a, off a + S1x1024x768.size a ≤ S16x1024x768.size a) : Prog (TpuEff nD τ sig (Elt F) Λ₀ .tc) (Vec F S1x1024x768 .bf16) :=
  Prog.lift (.load wg (Rect.unit (s := S16x1024x768) off S1x1024x768.size h).toLoadRect (View.loadsAt_vmem h_S1x1024x768))

/-- A whole 512 × 768 array loaded, and stored. -/
def loadAll (a : Memref sig .tc .vmem S512x768 .f32) : Prog (TpuEff nD τ sig (Elt F) Λ₀ .tc) (Vec F S512x768 .f32) :=
  Prog.lift (.load a (Rect.unit (s := S512x768) ![0, 0] S512x768.size inb_S512x768_S512x768_0_0).toLoadRect (View.loadsAt_vmem h_S512x768))
def storeAll (a : Memref sig .tc .vmem S512x768 .f32) (v : FVec F S512x768 .f32) : Prog (TpuEff nD τ sig (Elt F) Λ₀ .tc) PUnit :=
  Prog.lift (.store a (Rect.unit (s := S512x768) ![0, 0] S512x768.size inb_S512x768_S512x768_0_0) v Finset.univ (View.stores_vmem_bits_univ h_S512x768 rfl) (.inl rfl))

/-- The block at `off` loaded, and its contribution added to the accumulator. -/
def addChunk (wg : Memref sig .tc .vmem S16x1024x768 .bf16) (acc : Memref sig .tc .vmem S512x768 .f32) (x : FVec F S512x768 .bf16) (cos sin : FVec F S512x256 .f32) (rot : FVec F S256x256 .bf16)
    (off : Fin 3 → Nat) (h : ∀ a, off a + S1x1024x768.size a ≤ S16x1024x768.size a) : Prog (TpuEff nD τ sig (Elt F) Λ₀ .tc) PUnit := do
  let w : Vec F S1x1024x768 .bf16 ← loadSlot wg off h
  let a : Vec F S512x768 .f32 ← loadAll acc
  let _ : Vec F S512x768 .f32 ← loadAll acc
  storeAll acc (shapeCast S512x768 (addf a (contrib x cos sin rot (shapeCast S1024x768 w shapeCasts_S1x1024x768_S1024x768))) shapeCasts_S512x768_S512x768)

/-- Step `s` while both directions go on. -/
def step (wg : Memref sig .tc .vmem S16x1024x768 .bf16) (hwg : wg.IsWhole) (acc : Memref sig .tc .vmem S512x768 .f32) (rs rr : DmaSems sig S8) (ls lr : DmaSems sig S7) (d : Dev nD) (x : FVec F S512x768 .bf16) (cos sin : FVec F S512x256 .f32) (rot : FVec F S256x256 .bf16) (s : Fin 6) : Prog (TpuEff nD τ sig (Elt F) Λ₀ .tc) PUnit := do
  waitR wg hwg rr d ⟨s.val, by omega⟩
  startR wg hwg rs rr d ⟨s.val + 1, by omega⟩
  waitL wg hwg lr d ⟨s.val, by omega⟩
  startL wg hwg ls lr d ⟨s.val + 1, by omega⟩
  addChunk wg acc x cos sin rot (k0_off4 d (BitVec.ofNat 32 s.val)) (k0_off4_inb d ⟨s.val, by omega⟩)
  addChunk wg acc x cos sin rot (k0_off5 d (BitVec.ofNat 32 s.val)) (k0_off5_inb d ⟨s.val, by omega⟩)

set_option maxRecDepth 65536 in
/-- At the end: every copy sent is waited for. -/
def drain (wg : Memref sig .tc .vmem S16x1024x768 .bf16) (hwg : wg.IsWhole) (rs : DmaSems sig S8) (ls : DmaSems sig S7) (d : Dev nD) : Prog (TpuEff nD τ sig (Elt F) Λ₀ .tc) PUnit := do
  waitR wg hwg rs d 0
  waitR wg hwg rs d 1
  waitR wg hwg rs d 2
  waitR wg hwg rs d 3
  waitR wg hwg rs d 4
  waitR wg hwg rs d 5
  waitR wg hwg rs d 6
  waitR wg hwg rs d 7
  waitL wg hwg ls d 0
  waitL wg hwg ls d 1
  waitL wg hwg ls d 2
  waitL wg hwg ls d 3
  waitL wg hwg ls d 4
  waitL wg hwg ls d 5
  waitL wg hwg ls d 6

set_option maxRecDepth 65536 in
/-- The whole body. -/
def body (arg0 : Memref sig .tc .vmem S512x768 .bf16) (arg1 : Memref sig .tc .vmem S1024x768 .bf16)
    (arg2 : Memref sig .tc .vmem S512x256 .f32) (arg3 : Memref sig .tc .vmem S512x256 .f32) (arg4 : Memref sig .tc .vmem S256x256 .bf16)
    (arg5 : Memref sig .tc .vmem S512x768 .f32) (wg : Memref sig .tc .vmem S16x1024x768 .bf16) (hwg : wg.IsWhole) (acc : Memref sig .tc .vmem S512x768 .f32)
    (rs rr : DmaSems sig S8) (ls lr : DmaSems sig S7) : Prog (TpuEff nD τ sig (Elt F) Λ₀ .tc) PUnit := do
  let d : Dev nD ← Prog.lift .deviceId
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32
  let v13 : Vec F S512x768 .bf16 ← Prog.lift (.load arg0 (Rect.unit (s := S512x768) ![0, 0] S512x768.size inb_S512x768_S512x768_0_0).toLoadRect (View.loadsAt_vmem h_S512x768))
  let v15 : Vec F S512x256 .f32 ← Prog.lift (.load arg2 (Rect.unit (s := S512x256) ![0, 0] S512x256.size inb_S512x256_S512x256_0_0).toLoadRect (View.loadsAt_vmem h_S512x256))
  let v17 : Vec F S512x256 .f32 ← Prog.lift (.load arg3 (Rect.unit (s := S512x256) ![0, 0] S512x256.size inb_S512x256_S512x256_0_0).toLoadRect (View.loadsAt_vmem h_S512x256))
  let v19 : Vec F S256x256 .bf16 ← Prog.lift (.load arg4 (Rect.unit (s := S256x256) ![0, 0] S256x256.size inb_S256x256_S256x256_0_0).toLoadRect (View.loadsAt_vmem h_S256x256))
  let v21 : Vec F S1024x768 .bf16 ← Prog.lift (.load arg1 (Rect.unit (s := S1024x768) ![0, 0] S1024x768.size inb_S1024x768_S1024x768_0_0).toLoadRect (View.loadsAt_vmem h_S1024x768))
  let _ : Vec F S1x1024x768 .bf16 ← loadSlot wg (k0_off1 d) (k0_off1_inb d)
  Prog.lift (.store wg (Rect.unit (s := S16x1024x768) (k0_off1 d) S1x1024x768.size (k0_off1_inb d)) (k0_pay5 v21) Finset.univ (View.stores_vmem h_S1x1024x768 (hwg.storeExact_slice rfl _ (k0_off1_packedbf16 d)) (fun _ => rfl)) (.inl rfl))
  startR wg hwg rs rr d 0
  startL wg hwg ls lr d 0
  let w : Vec F S1x1024x768 .bf16 ← loadSlot wg (k0_off1 d) (k0_off1_inb d)
  let _ : Vec F S512x768 .f32 ← loadAll acc
  storeAll acc (shapeCast S512x768 (contrib (k0_pay1 v13) (k0_pay2 v15) (k0_pay3 v17) (k0_pay4 v19) (shapeCast S1024x768 w shapeCasts_S1x1024x768_S1024x768)) shapeCasts_S512x768_S512x768)
  step wg hwg acc rs rr ls lr d (k0_pay1 v13) (k0_pay2 v15) (k0_pay3 v17) (k0_pay4 v19) 0
  step wg hwg acc rs rr ls lr d (k0_pay1 v13) (k0_pay2 v15) (k0_pay3 v17) (k0_pay4 v19) 1
  step wg hwg acc rs rr ls lr d (k0_pay1 v13) (k0_pay2 v15) (k0_pay3 v17) (k0_pay4 v19) 2
  step wg hwg acc rs rr ls lr d (k0_pay1 v13) (k0_pay2 v15) (k0_pay3 v17) (k0_pay4 v19) 3
  step wg hwg acc rs rr ls lr d (k0_pay1 v13) (k0_pay2 v15) (k0_pay3 v17) (k0_pay4 v19) 4
  step wg hwg acc rs rr ls lr d (k0_pay1 v13) (k0_pay2 v15) (k0_pay3 v17) (k0_pay4 v19) 5
  waitR wg hwg rr d 6
  startR wg hwg rs rr d 7
  waitL wg hwg lr d 6
  addChunk wg acc (k0_pay1 v13) (k0_pay2 v15) (k0_pay3 v17) (k0_pay4 v19) (k0_off4 d (BitVec.ofNat 32 6)) (k0_off4_inb d 6)
  addChunk wg acc (k0_pay1 v13) (k0_pay2 v15) (k0_pay3 v17) (k0_pay4 v19) (k0_off5 d (BitVec.ofNat 32 6)) (k0_off5_inb d 6)
  waitR wg hwg rr d 7
  addChunk wg acc (k0_pay1 v13) (k0_pay2 v15) (k0_pay3 v17) (k0_pay4 v19) (k0_off4 d (BitVec.ofNat 32 7)) (k0_off4_inb d 7)
  let r : Vec F S512x768 .f32 ← loadAll acc
  let _ : Vec F S512x768 .f32 ← loadAll arg5
  storeAll arg5 r
  drain wg hwg rs ls d

set_option maxRecDepth 65536 in
/-- The printed body is this program. -/
theorem body_eq : ∀ (arg0 : Memref sig .tc .vmem S512x768 .bf16) (harg0 : arg0.IsWhole) (arg1 : Memref sig .tc .vmem S1024x768 .bf16) (harg1 : arg1.IsWhole)
    (arg2 : Memref sig .tc .vmem S512x256 .f32) (harg2 : arg2.IsWhole) (arg3 : Memref sig .tc .vmem S512x256 .f32) (harg3 : arg3.IsWhole)
    (arg4 : Memref sig .tc .vmem S256x256 .bf16) (harg4 : arg4.IsWhole) (arg5 : Memref sig .tc .vmem S512x768 .f32) (harg5 : arg5.IsWhole)
    (arg6 : Memref sig .tc .vmem S16x1024x768 .bf16) (harg6 : arg6.IsWhole) (arg7 : Memref sig .tc .vmem S512x768 .f32) (harg7 : arg7.IsWhole)
    (arg8 arg9 : DmaSems sig S8) (arg10 arg11 : DmaSems sig S7),
    cc0__body (F := F) arg0 harg0 arg1 harg1 arg2 harg2 arg3 harg3 arg4 harg4 arg5 harg5 arg6 harg6 arg7 harg7 arg8 arg9 arg10 arg11
      = body arg0 arg1 arg2 arg3 arg4 arg5 arg6 harg6 arg7 arg8 arg9 arg10 arg11 := by
  intros
  rfl

end Cert.KernelIdeal.Ring

end
-- ==== Proof.Copies.lean ====
/-
# The fifteen copies each device sends, and where they go

Copy `k` of device `c` goes to the right neighbour when `k` is even and to the left one when `k` is odd; the copies
are numbered in the order in which they start. Copy `k` sends slot `src k c` and lands in the same slot of the
neighbour, so that the fifteen copies that device `c` receives land in its slots `land k c`: with its own slot `c`
these are all sixteen.
-/
module

public import proofs.«01_k».proof.Proof.RingBody

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-! ## The ring -/

def right (c : Dev nD) : Dev nD := ⟨(c.val + 1) % 16, Nat.mod_lt _ (by decide)⟩
def left (c : Dev nD) : Dev nD := ⟨(c.val + 15) % 16, Nat.mod_lt _ (by decide)⟩
theorem left_right (c : Dev nD) : left (right c) = c := by revert c; decide
theorem right_left (c : Dev nD) : right (left c) = c := by revert c; decide

abbrev Even (k : Fin 15) : Prop := k.val % 2 = 0

/-- Whom copy `k` of device `c` goes to, and whose copy `k` device `c` receives. -/
def dest (k : Fin 15) (c : Dev nD) : Dev nD := if Even k then right c else left c
def frm (k : Fin 15) (c : Dev nD) : Dev nD := if Even k then left c else right c
theorem dest_frm (k : Fin 15) (c : Dev nD) : dest k (frm k c) = c := by
  unfold dest frm; split
  · exact right_left c
  · exact left_right c
theorem frm_dest (k : Fin 15) (c : Dev nD) : frm k (dest k c) = c := by
  unfold dest frm; split
  · exact left_right c
  · exact right_left c
def around (k : Fin 15) : Dev nD ≃ Dev nD := ⟨dest k, frm k, frm_dest k, dest_frm k⟩

/-- The slot that copy `k` of device `c` sends, and the slot where the one it receives lands. -/
def src (k : Fin 15) (c : Dev nD) : Fin 16 := if Even k then ⟨(c.val + 32 - k.val / 2) % 16, Nat.mod_lt _ (by decide)⟩ else ⟨(c.val + k.val / 2) % 16, Nat.mod_lt _ (by decide)⟩
def land (k : Fin 15) (c : Dev nD) : Fin 16 := if Even k then ⟨(c.val + 31 - k.val / 2) % 16, Nat.mod_lt _ (by decide)⟩ else ⟨(c.val + k.val / 2 + 1) % 16, Nat.mod_lt _ (by decide)⟩
theorem src_frm (k : Fin 15) (c : Dev nD) : src k (frm k c) = land k c := by revert k c; decide
theorem land_dest (k : Fin 15) (c : Dev nD) : land k (dest k c) = src k c := by rw [← src_frm, frm_dest]
theorem src_zero (c : Dev nD) : src 0 c = c := by revert c; decide
theorem src_one (c : Dev nD) : src 1 c = c := by revert c; decide
/-- Two copies later a landed slot goes on in the same direction. -/
theorem src_next (p : Fin 13) (c : Dev nD) : src ⟨p.val + 2, by omega⟩ c = land ⟨p.val, by omega⟩ c := by revert p c; decide

/-- Every slot but the own one is landed in exactly once. -/
theorem land_inj (c : Dev nD) : Function.Injective fun k => land k c := by revert c; decide
theorem land_ne (k : Fin 15) (c : Dev nD) : land k c ≠ c := by revert k c; decide
theorem slots_univ (c : Dev nD) : (Finset.univ : Finset (Fin 16)) = insert (c : Fin 16) (Finset.univ.image fun k => land k c) := by revert c; decide

/-! ## The semaphores -/

def sendS (k : Fin 15) : DmaSem sig := if Even k then ⟨6 + k.val / 2, by show 6 + k.val / 2 < 36; omega⟩ else ⟨22 + k.val / 2, by show 22 + k.val / 2 < 36; omega⟩
def recvS (k : Fin 15) : DmaSem sig := if h : Even k then ⟨14 + k.val / 2, by show 14 + k.val / 2 < 36; omega⟩ else ⟨29 + k.val / 2, by show 29 + k.val / 2 < 36; unfold Even at h; omega⟩
theorem sendS_inj : Function.Injective sendS := by decide
theorem recvS_inj : Function.Injective recvS := by decide
theorem send_ne_recv (k k' : Fin 15) : sendS k ≠ recvS k' := by revert k k'; decide

abbrev barS : Sem sig := (SemArray.scalar (sig.barrier 0 rfl) : Sems sig S_).sem

/-! ## The slots of the gathered blocks -/

abbrev wgM : Memref sig .tc .vmem S16x1024x768 .bf16 := Memref.whole cc0_scratch0
abbrev accM : Memref sig .tc .vmem S512x768 .f32 := Memref.whole cc0_scratch1

theorem slot_inb (j : Fin 16) : ∀ a, (![j.val, 0, 0] : Fin 3 → Nat) a + S1x1024x768.size a ≤ S16x1024x768.size a := by revert j; decide
abbrev slotRect (j : Fin 16) : Rect S16x1024x768 := Rect.unit (s := S16x1024x768) ![j.val, 0, 0] S1x1024x768.size (slot_inb j)
abbrev slot (j : Fin 16) : Memref sig .tc .vmem S1024x768 .bf16 := slotAt wgM ![j.val, 0, 0] (slot_inb j)

theorem slot_set (j : Fin 16) : (slot j).view.set = (slotRect j).set := by
  show (View.reshape _ _ _).set = _
  rw [View.set_reshape]
  exact View.set_slice_whole _ _

abbrev slotSet (j : Fin 16) : Finset S16x1024x768.Idx := (slot j).view.set

theorem slot_disjoint (j j' : Fin 16) (h : j ≠ j') : Disjoint (slotSet j) (slotSet j') := by
  rw [slotSet, slotSet, slot_set, slot_set]
  refine Rect.unit_disjoint (s := S16x1024x768) (0 : Fin 3) ?_
  have := Fin.val_ne_of_ne h
  show j.val + 1 ≤ j'.val ∨ j'.val + 1 ≤ j.val
  omega

theorem mem_slotSet (j : Fin 16) (i : S16x1024x768.Idx) : i ∈ slotSet j ↔ i 0 = j := by
  rw [slotSet, slot_set, Rect.mem_set_unit]
  have h1 : (i 1).val < 1024 := (i 1).isLt
  have h2 : (i 2).val < 768 := (i 2).isLt
  constructor
  · intro h
    have h0 : j.val ≤ (i 0).val ∧ (i 0).val < j.val + 1 := h 0
    exact Fin.ext (by omega)
  · intro h a
    fin_cases a
    · have e : (i 0).val = j.val := congrArg Fin.val h
      show j.val ≤ (i 0).val ∧ (i 0).val < j.val + 1
      omega
    · exact ⟨Nat.zero_le _, by show (i 1).val < 0 + 1024; omega⟩
    · exact ⟨Nat.zero_le _, by show (i 2).val < 0 + 768; omega⟩

theorem slot_cover : (Finset.univ : Finset (Fin 16)).biUnion slotSet = Finset.univ := by
  ext i
  simp only [Finset.mem_biUnion, Finset.mem_univ, true_and, iff_true]
  exact ⟨i 0, (mem_slotSet _ i).mpr rfl⟩

/-- How many units a slot's landing adds. -/
abbrev N : ℕ := (slot 0).view.dmaCredit
theorem N_pos : 0 < N := View.dmaCredit_pos _ (by decide)
theorem credit_eq (j : Fin 16) : (slot j).view.dmaCredit = N := rfl

end Cert.KernelIdeal.Ring

end
-- ==== Proof.Pieces.lean ====
/-
# The body in terms of the copies

The statements of the body name slots, semaphores and neighbours by arithmetic on the device's number. Here each is
shown to be the copy it stands for, and the body is written once more in those terms.
-/
module

public import proofs.«01_k».proof.Proof.Copies

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-- The slot at an offset is the one the offset's closed form names. -/
theorem slotAt_words {off off' : Fin 3 → Nat} (e : off = off') (h) (h') (w : (slotAt wgM off h).view.WordExact) :
    (slotAt wgM off' h').view.WordExact := by
  subst e; exact w

theorem slot_words (j : Fin 16) : (slot j).view.WordExact :=
  slotAt_words (by rw [k0_off2_eq]; revert j; decide) _ (slot_inb j) (wordsR wgM (Memref.isWhole_whole _) j 0)

/-- A copy of slot `j` to device `t` started; a wait for one slot's worth on a semaphore. -/
def startAt (j : Fin 16) (t : Dev nD) (ss rs : DmaSem sig) : Prog (TpuEff nD τ sig (Elt F) Λ₀ .tc) PUnit :=
  Prog.lift (.enqueueDma (slot j) (.remote (Dev.tc t) (slot j) (.dma ss)) (.dma rs) (slot_words j) (slot_words j) ⟨⟨rfl, Or.inl rfl⟩, trivial⟩)
def waitAt (s : DmaSem sig) (j : Fin 16) : Prog (TpuEff nD τ sig (Elt F) Λ₀ .tc) PUnit :=
  Prog.lift (.waitDma2 s (slot j) (slot j) (slot_words j) (slot_words j))

/-- Copy `k` of device `d` started, its landing awaited, its sending awaited. -/
def start (d : Dev nD) (k : Fin 15) : Prog (TpuEff nD τ sig (Elt F) Λ₀ .tc) PUnit := startAt (src k d) (dest k d) (sendS k) (recvS k)
def arrive (d : Dev nD) (k : Fin 15) : Prog (TpuEff nD τ sig (Elt F) Λ₀ .tc) PUnit := waitAt (recvS k) (src k d)
def depart (d : Dev nD) (k : Fin 15) : Prog (TpuEff nD τ sig (Elt F) Λ₀ .tc) PUnit := waitAt (sendS k) (src k d)

abbrev evenK (s : Fin 8) : Fin 15 := ⟨2 * s.val, by omega⟩
abbrev oddK (s : Fin 7) : Fin 15 := ⟨2 * s.val + 1, by omega⟩

theorem send8 (s : Fin 8) : sem8 cc0_scratch2 s = sendS (evenK s) := by revert s; decide
theorem recv8 (s : Fin 8) : sem8 cc0_scratch3 s = recvS (evenK s) := by revert s; decide
theorem send7 (s : Fin 7) : sem7 cc0_scratch4 s = sendS (oddK s) := by revert s; decide
theorem recv7 (s : Fin 7) : sem7 cc0_scratch5 s = recvS (oddK s) := by revert s; decide

theorem off2_src (d : Dev nD) (s : Fin 8) : k0_off2 d (BitVec.ofNat 32 s.val) = ![(src (evenK s) d).val, 0, 0] := by
  rw [k0_off2_eq]; revert d s; decide
theorem off3_src (d : Dev nD) (s : Fin 7) : k0_off3 d (BitVec.ofNat 32 s.val) = ![(src (oddK s) d).val, 0, 0] := by
  rw [k0_off3_eq]; revert d s; decide
theorem off4_land (d : Dev nD) (s : Fin 8) : k0_off4 d (BitVec.ofNat 32 s.val) = ![(land (evenK s) d).val, 0, 0] := by
  rw [k0_off4_eq]; revert d s; decide
theorem off5_land (d : Dev nD) (s : Fin 7) : k0_off5 d (BitVec.ofNat 32 s.val) = ![(land (oddK s) d).val, 0, 0] := by
  rw [k0_off5_eq]; revert d s; decide
theorem dev1_left (d : Dev nD) : (⟨k0_dev1 d, k0_dev1_lt d⟩ : Dev nD) = left d := Fin.ext (k0_dev1_eq d)
theorem dev2_right (d : Dev nD) : (⟨k0_dev2 d, k0_dev2_lt d⟩ : Dev nD) = right d := Fin.ext (k0_dev2_eq d)
theorem dev3_right (d : Dev nD) : (⟨k0_dev3 d, k0_dev3_lt d⟩ : Dev nD) = right d := Fin.ext (k0_dev3_eq d)
theorem dev4_left (d : Dev nD) : (⟨k0_dev4 d, k0_dev4_lt d⟩ : Dev nD) = left d := Fin.ext (k0_dev4_eq d)
theorem dest_even (d : Dev nD) (s : Fin 8) : dest (evenK s) d = right d := if_pos (by show 2 * s.val % 2 = 0; omega)
theorem dest_odd (d : Dev nD) (s : Fin 7) : dest (oddK s) d = left d := if_neg (by show ¬ (2 * s.val + 1) % 2 = 0; omega)

theorem startAt_of {off : Fin 3 → Nat} {j : Fin 16} (e : off = ![j.val, 0, 0]) {t t' : Dev nD} (et : t = t') {ss ss' rs rs' : DmaSem sig} (es : ss = ss') (er : rs = rs')
    (h : ∀ a, off a + S1x1024x768.size a ≤ S16x1024x768.size a) (w : (slotAt wgM off h).view.WordExact) :
    (Prog.lift (.enqueueDma (slotAt wgM off h) (.remote (Dev.tc t) (slotAt wgM off h) (.dma ss)) (.dma rs) w w ⟨⟨rfl, Or.inl rfl⟩, trivial⟩)
      : Prog (TpuEff nD τ sig (Elt F) Λ₀ .tc) PUnit) = startAt j t' ss' rs' := by
  subst e et es er; rfl
theorem waitAt_of {off : Fin 3 → Nat} {j : Fin 16} (e : off = ![j.val, 0, 0]) {s s' : DmaSem sig} (es : s = s')
    (h : ∀ a, off a + S1x1024x768.size a ≤ S16x1024x768.size a) (w : (slotAt wgM off h).view.WordExact) :
    (Prog.lift (.waitDma2 s (slotAt wgM off h) (slotAt wgM off h) w w) : Prog (TpuEff nD τ sig (Elt F) Λ₀ .tc) PUnit) = waitAt s' j := by
  subst e es; rfl

theorem startR_eq (hwg : wgM.IsWhole) (d : Dev nD) (s : Fin 8) : startR (F := F) wgM hwg cc0_scratch2 cc0_scratch3 d s = start d (evenK s) :=
  startAt_of (off2_src d s) ((dev3_right d).trans (dest_even d s).symm) (send8 s) (recv8 s) _ _
theorem startL_eq (hwg : wgM.IsWhole) (d : Dev nD) (s : Fin 7) : startL (F := F) wgM hwg cc0_scratch4 cc0_scratch5 d s = start d (oddK s) :=
  startAt_of (off3_src d s) ((dev4_left d).trans (dest_odd d s).symm) (send7 s) (recv7 s) _ _
theorem arriveR_eq (hwg : wgM.IsWhole) (d : Dev nD) (s : Fin 8) : waitR (F := F) wgM hwg cc0_scratch3 d s = arrive d (evenK s) := waitAt_of (off2_src d s) (recv8 s) _ _
theorem arriveL_eq (hwg : wgM.IsWhole) (d : Dev nD) (s : Fin 7) : waitL (F := F) wgM hwg cc0_scratch5 d s = arrive d (oddK s) := waitAt_of (off3_src d s) (recv7 s) _ _
theorem departR_eq (hwg : wgM.IsWhole) (d : Dev nD) (s : Fin 8) : waitR (F := F) wgM hwg cc0_scratch2 d s = depart d (evenK s) := waitAt_of (off2_src d s) (send8 s) _ _
theorem departL_eq (hwg : wgM.IsWhole) (d : Dev nD) (s : Fin 7) : waitL (F := F) wgM hwg cc0_scratch4 d s = depart d (oddK s) := waitAt_of (off3_src d s) (send7 s) _ _

/-- Slot `j` loaded; filled; its block's contribution added. -/
abbrev loadJ (j : Fin 16) : Prog (TpuEff nD τ sig (Elt F) Λ₀ .tc) (Vec F S1x1024x768 .bf16) := loadSlot wgM ![j.val, 0, 0] (slot_inb j)
theorem access_stores {off off' : Fin 3 → Nat} (e : off = off') (h) (h') (w : (wgM.access (Rect.unit (s := S16x1024x768) off S1x1024x768.size h)).Stores Finset.univ) :
    (wgM.access (Rect.unit (s := S16x1024x768) off' S1x1024x768.size h')).Stores Finset.univ := by subst e; exact w
theorem slot_stores (j : Fin 16) : (wgM.access (slotRect j)).Stores Finset.univ :=
  access_stores (k0_off1_eq j) _ (slot_inb j) (View.stores_vmem h_S1x1024x768 ((Memref.isWhole_whole _).storeExact_slice rfl _ (k0_off1_packedbf16 j)) (fun _ => rfl))
def fillJ (j : Fin 16) (v : Vec F S1x1024x768 .bf16) : Prog (TpuEff nD τ sig (Elt F) Λ₀ .tc) PUnit :=
  Prog.lift (.store wgM (slotRect j) v Finset.univ (slot_stores j) (.inl rfl))
theorem fill_of {off : Fin 3 → Nat} {j : Fin 16} (e : off = ![j.val, 0, 0]) (h) (v : Vec F S1x1024x768 .bf16)
    (w : (wgM.access (Rect.unit (s := S16x1024x768) off S1x1024x768.size h)).Stores Finset.univ) :
    (Prog.lift (.store wgM (Rect.unit (s := S16x1024x768) off S1x1024x768.size h) v Finset.univ w (.inl rfl)) : Prog (TpuEff nD τ sig (Elt F) Λ₀ .tc) PUnit) = fillJ j v := by
  subst e; rfl
abbrev addJ (x : FVec F S512x768 .bf16) (cos sin : FVec F S512x256 .f32) (rot : FVec F S256x256 .bf16) (j : Fin 16) : Prog (TpuEff nD τ sig (Elt F) Λ₀ .tc) PUnit :=
  addChunk wgM accM x cos sin rot ![j.val, 0, 0] (slot_inb j)
theorem loadSlot_of {off : Fin 3 → Nat} {j : Fin 16} (e : off = ![j.val, 0, 0]) (h) : loadSlot (F := F) wgM off h = loadJ j := by subst e; rfl
theorem addChunk_of (x : FVec F S512x768 .bf16) (cos sin : FVec F S512x256 .f32) (rot : FVec F S256x256 .bf16) {off : Fin 3 → Nat} {j : Fin 16} (e : off = ![j.val, 0, 0]) (h) :
    addChunk (F := F) wgM accM x cos sin rot off h = addJ x cos sin rot j := by subst e; rfl

/-- Two copies that have landed and their successors started, and the two blocks that landed added. -/
def stepK (d : Dev nD) (x : FVec F S512x768 .bf16) (cos sin : FVec F S512x256 .f32) (rot : FVec F S256x256 .bf16) (s : Fin 6) : Prog (TpuEff nD τ sig (Elt F) Λ₀ .tc) PUnit := do
  arrive d ⟨2 * s.val, by omega⟩
  start d ⟨2 * s.val + 2, by omega⟩
  arrive d ⟨2 * s.val + 1, by omega⟩
  start d ⟨2 * s.val + 3, by omega⟩
  addJ x cos sin rot (land ⟨2 * s.val, by omega⟩ d)
  addJ x cos sin rot (land ⟨2 * s.val + 1, by omega⟩ d)

theorem step_eq (hwg : wgM.IsWhole) (d : Dev nD) (x : FVec F S512x768 .bf16) (cos sin : FVec F S512x256 .f32) (rot : FVec F S256x256 .bf16) (s : Fin 6) :
    step (F := F) wgM hwg accM cc0_scratch2 cc0_scratch3 cc0_scratch4 cc0_scratch5 d x cos sin rot s = stepK d x cos sin rot s := by
  unfold step
  rw [arriveR_eq, startR_eq, arriveL_eq, startL_eq, addChunk_of x cos sin rot (off4_land d ⟨s.val, by omega⟩), addChunk_of x cos sin rot (off5_land d ⟨s.val, by omega⟩)]
  rfl

/-- The copies in the order in which their sending is awaited at the end. -/
def departs : List (Fin 15) := [0, 2, 4, 6, 8, 10, 12, 14, 1, 3, 5, 7, 9, 11, 13]
def departAll (d : Dev nD) : List (Fin 15) → Prog (TpuEff nD τ sig (Elt F) Λ₀ .tc) PUnit
  | [] => pure ⟨⟩
  | k :: ks => do
    depart d k
    departAll d ks

set_option maxRecDepth 65536 in
theorem drain_eq (hwg : wgM.IsWhole) (d : Dev nD) :
    drain (F := F) wgM hwg cc0_scratch2 cc0_scratch4 d = departAll d departs := by
  unfold drain
  simp only [departR_eq, departL_eq]
  rfl

/-- What follows the handshake and the loads of the five inputs. -/
def ring (d : Dev nD) (x : FVec F S512x768 .bf16) (cos sin : FVec F S512x256 .f32) (rot : FVec F S256x256 .bf16) (own : Vec F S1x1024x768 .bf16)
    (out : Memref sig .tc .vmem S512x768 .f32) : Prog (TpuEff nD τ sig (Elt F) Λ₀ .tc) PUnit := do
  let _ : Vec F S1x1024x768 .bf16 ← loadJ d
  fillJ d own
  start d 0
  start d 1
  let w : Vec F S1x1024x768 .bf16 ← loadJ d
  let _ : Vec F S512x768 .f32 ← loadAll accM
  storeAll accM (shapeCast S512x768 (contrib x cos sin rot (shapeCast S1024x768 w shapeCasts_S1x1024x768_S1024x768)) shapeCasts_S512x768_S512x768)
  stepK d x cos sin rot 0
  stepK d x cos sin rot 1
  stepK d x cos sin rot 2
  stepK d x cos sin rot 3
  stepK d x cos sin rot 4
  stepK d x cos sin rot 5
  arrive d 12
  start d 14
  arrive d 13
  addJ x cos sin rot (land 12 d)
  addJ x cos sin rot (land 13 d)
  arrive d 14
  addJ x cos sin rot (land 14 d)
  let r : Vec F S512x768 .f32 ← loadAll accM
  let _ : Vec F S512x768 .f32 ← loadAll out
  storeAll out r
  departAll d departs

set_option maxRecDepth 65536 in
/-- The body: the handshake with both neighbours, the loads, and the ring. -/
theorem body_ring (arg0 : Memref sig .tc .vmem S512x768 .bf16) (arg1 : Memref sig .tc .vmem S1024x768 .bf16)
    (arg2 : Memref sig .tc .vmem S512x256 .f32) (arg3 : Memref sig .tc .vmem S512x256 .f32) (arg4 : Memref sig .tc .vmem S256x256 .bf16)
    (arg5 : Memref sig .tc .vmem S512x768 .f32) (hwg : wgM.IsWhole) :
    body (F := F) arg0 arg1 arg2 arg3 arg4 arg5 wgM hwg accM cc0_scratch2 cc0_scratch3 cc0_scratch4 cc0_scratch5 = (do
      let d : Dev nD ← Prog.lift .deviceId
      semSignalWord (left d) barS 1#32
      semSignalWord (right d) barS 1#32
      semWaitWord barS 2#32
      let v13 : Vec F S512x768 .bf16 ← Prog.lift (.load arg0 (Rect.unit (s := S512x768) ![0, 0] S512x768.size inb_S512x768_S512x768_0_0).toLoadRect (View.loadsAt_vmem h_S512x768))
      let v15 : Vec F S512x256 .f32 ← Prog.lift (.load arg2 (Rect.unit (s := S512x256) ![0, 0] S512x256.size inb_S512x256_S512x256_0_0).toLoadRect (View.loadsAt_vmem h_S512x256))
      let v17 : Vec F S512x256 .f32 ← Prog.lift (.load arg3 (Rect.unit (s := S512x256) ![0, 0] S512x256.size inb_S512x256_S512x256_0_0).toLoadRect (View.loadsAt_vmem h_S512x256))
      let v19 : Vec F S256x256 .bf16 ← Prog.lift (.load arg4 (Rect.unit (s := S256x256) ![0, 0] S256x256.size inb_S256x256_S256x256_0_0).toLoadRect (View.loadsAt_vmem h_S256x256))
      let v21 : Vec F S1024x768 .bf16 ← Prog.lift (.load arg1 (Rect.unit (s := S1024x768) ![0, 0] S1024x768.size inb_S1024x768_S1024x768_0_0).toLoadRect (View.loadsAt_vmem h_S1024x768))
      ring d (k0_pay1 v13) (k0_pay2 v15) (k0_pay3 v17) (k0_pay4 v19) (k0_pay5 v21) arg5) := by
  have fill : ∀ (d : Dev nD) (v : Vec F S1x1024x768 .bf16) (w), (Prog.lift (.store wgM (Rect.unit (s := S16x1024x768) (k0_off1 d) S1x1024x768.size (k0_off1_inb d)) v Finset.univ w (.inl rfl)) : Prog (TpuEff nD τ sig (Elt F) Λ₀ .tc) PUnit) = fillJ d v := fun d v w => fill_of (k0_off1_eq d) _ v w
  have ld : ∀ d, loadSlot (F := F) wgM (k0_off1 d) (k0_off1_inb d) = loadJ d := fun d => loadSlot_of (k0_off1_eq d) _
  have a4 : ∀ d x cos sin rot, addChunk (F := F) wgM accM x cos sin rot (k0_off4 d (BitVec.ofNat 32 6)) (k0_off4_inb d 6) = addJ x cos sin rot (land 12 d) := fun d x cos sin rot => addChunk_of x cos sin rot (off4_land d 6) _
  have a5 : ∀ d x cos sin rot, addChunk (F := F) wgM accM x cos sin rot (k0_off5 d (BitVec.ofNat 32 6)) (k0_off5_inb d 6) = addJ x cos sin rot (land 13 d) := fun d x cos sin rot => addChunk_of x cos sin rot (off5_land d 6) _
  have a6 : ∀ d x cos sin rot, addChunk (F := F) wgM accM x cos sin rot (k0_off4 d (BitVec.ofNat 32 7)) (k0_off4_inb d 7) = addJ x cos sin rot (land 14 d) := fun d x cos sin rot => addChunk_of x cos sin rot (off4_land d 7) _
  unfold body
  refine bind_congr fun d => ?_
  simp only [startR_eq, startL_eq, arriveR_eq, arriveL_eq, step_eq, drain_eq, fill, ld, a4, a5, a6, dev1_left, dev2_right]
  rfl

end Cert.KernelIdeal.Ring

end
-- ==== Proof.Protocol.lean ====
/-
# The protocol of the ring

For each semaphore cell: who waits, who adds to it, how much, and what is handed over with it.

* The barrier of device `c`: each neighbour signals one unit, and `c` waits for two. The right neighbour hands over
  its slots that the copies to the right will be written to, the left neighbour those of the copies to the left, each
  with the fact that the receive semaphore of that copy has been opened.
* Receive semaphore `k` of device `c`: the copy `k` of the neighbour `frm k c` adds one slot's worth, `c` waits for it.
  It hands over slot `land k c`, filled with its block of the gathered blocks.
* Send semaphore `k` of device `c`: the own copy `k` adds one slot's worth, `c` waits for it at the end. It hands back
  the share of slot `src k c` that the copy reads.

The gathered blocks `G` are the same on every device. A wait for copy `k` happens while copies after `k + 1` are still
to be started, so that the levels rise with `k`.
-/
module

public import proofs.«01_k».proof.Proof.Pieces
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.Ring
public import Idealize.ShloMosaic.Lib.StableHlo
public import Idealize.ShloMosaic.Lib.Tactic
public import Idealize.ShloMosaic.Lib.Pipeline.RegionTalk

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Cells and slots -/

abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))

/-- The contents of the scratch that holds the gathered blocks. -/
abbrev Blocks (F : FTy → Type) : Type := (cc0_scratch0 : Ref sig .tc).ty.Contents (Elt F)

/-- Slot `j` of device `c` at the contents `f`. -/
abbrev slotPts (q : PosShare TreeShare) (c : Dev nD) (j : Fin 16) (f : Blocks F) : sProp 𝕄 :=
  (slot j).view.loc (c : Thread nD τ) ↦[(slot j).view.set]{q} f

/-- The share of its source that copy `k` reads with: the own slot is read by the copies 0 and 1 and by the loads. -/
abbrev share (k : Fin 15) : PosShare TreeShare := if k = 1 then fullShare.right.left else fullShare.left

variable (G : Blocks F)

/-! ## The schedule -/

/-- A slot for copy `k` of device `c` to land in, at whatever it holds, its receive semaphore open. -/
def fresh (c : Dev nD) (k : Fin 15) : sProp 𝕄 := iprop((∃ f : Blocks F, slotPts fullShare (dest k c) (src k c) f) ∗ reached ER (recvCell (dest k c) k) 0)

/-- What the neighbour on the side `b` hands over to device `c` at the barrier. -/
def barPay (c : Dev nD) (b : Bool) : sProp 𝕄 := bigSep (Finset.univ.filter fun k : Fin 15 => decide (Even k) = b) (fresh c)
def recvPay (c : Dev nD) (k : Fin 15) : sProp 𝕄 := slotPts fullShare c (land k c) G
def sendPay (c : Dev nD) (k : Fin 15) : sProp 𝕄 := slotPts (share k) c (src k c) G

abbrev IsRecv (s : SemLoc sig) : Prop := ∃ k : Fin 15, s = .dma (recvS k)
abbrev IsSend (s : SemLoc sig) : Prop := ∃ k : Fin 15, s = .dma (sendS k)

/-- One round on every cell: two duties on a barrier, one on each other. -/
def rd : Rounds.Schedule (GSem nD τ sig) Bool 𝕄 where
  duties g r := if r = 0 ∧ g.1.2 = .tc then (if g.2 = .reg barS then Finset.univ else if IsRecv g.2 ∨ IsSend g.2 then {true} else ∅) else ∅
  unitless _ := False
  amount g _ _ := if g.2 = .reg barS then 1 else N
  payload g _ b :=
    if g.2 = .reg barS then barPay g.1.1 b
    else if h : IsRecv g.2 then recvPay G g.1.1 h.choose
    else if h : IsSend g.2 then sendPay G g.1.1 h.choose
    else iprop(emp)
  amount_pos g _ _ _ := by
    by_cases h : g.2 = .reg barS
    · rw [if_pos h]; exact Nat.one_pos
    · rw [if_neg h]; exact N_pos

instance fresh_storable (c : Dev nD) (k : Fin 15) : BI.Storable (upEmb : UEmb _ 𝕄) (fresh (F := F) c k) := by unfold fresh; infer_instance
instance barPay_storable (c : Dev nD) (b : Bool) : BI.Storable (upEmb : UEmb _ 𝕄) (barPay (F := F) c b) := by unfold barPay; infer_instance

instance rd_payload_storable (g : GSem nD τ sig) (r : ℕ) (b : Bool) : BI.Storable (upEmb : UEmb _ 𝕄) ((rd (F := F) G).payload g r b) := by
  show BI.Storable upEmb (if g.2 = .reg barS then barPay g.1.1 b
    else if h : IsRecv g.2 then recvPay G g.1.1 h.choose
    else if h : IsSend g.2 then sendPay G g.1.1 h.choose
    else iprop(emp))
  unfold recvPay sendPay
  (repeat' split) <;> infer_instance

section Sched

variable (c : Dev nD) (k : Fin 15)

theorem send_ne_bar : (SemLoc.dma (sendS k) : SemLoc sig) ≠ .reg barS := fun h => by cases h
theorem recv_ne_bar : (SemLoc.dma (recvS k) : SemLoc sig) ≠ .reg barS := fun h => by cases h
theorem isRecv : IsRecv (.dma (recvS k)) := ⟨k, rfl⟩
theorem isSend : IsSend (.dma (sendS k)) := ⟨k, rfl⟩
theorem isRecv_choose (h : IsRecv (.dma (recvS k))) : h.choose = k := (recvS_inj (SemLoc.dma.inj h.choose_spec)).symm
theorem isSend_choose (h : IsSend (.dma (sendS k))) : h.choose = k := (sendS_inj (SemLoc.dma.inj h.choose_spec)).symm
theorem not_isRecv : ¬ IsRecv (.dma (sendS k)) := fun ⟨k', h⟩ => send_ne_recv k k' (SemLoc.dma.inj h)

theorem duties_bar : (rd (F := F) G).duties (barCell c) 0 = Finset.univ := by dsimp only [rd]; rw [if_pos ⟨rfl, rfl⟩, if_pos rfl]
theorem duties_send : (rd (F := F) G).duties (sendCell c k) 0 = {true} := by
  dsimp only [rd]; rw [if_pos ⟨rfl, rfl⟩, if_neg (send_ne_bar k), if_pos (.inr (isSend k))]
theorem duties_recv : (rd (F := F) G).duties (recvCell c k) 0 = {true} := by
  dsimp only [rd]; rw [if_pos ⟨rfl, rfl⟩, if_neg (recv_ne_bar k), if_pos (.inl (isRecv k))]
theorem duties_later (g : GSem nD τ sig) : ∀ r, 1 ≤ r → (rd (F := F) G).duties g r = ∅ :=
  fun r hr => by dsimp only [rd]; rw [if_neg (fun h => by omega)]

theorem amount_bar (b : Bool) : (rd (F := F) G).amount (barCell c) 0 b = 1 := by dsimp only [rd]; exact if_pos rfl
theorem amount_send (b : Bool) : (rd (F := F) G).amount (sendCell c k) 0 b = N := by dsimp only [rd]; exact if_neg (send_ne_bar k)
theorem amount_recv (b : Bool) : (rd (F := F) G).amount (recvCell c k) 0 b = N := by dsimp only [rd]; exact if_neg (recv_ne_bar k)

theorem expect_bar : (rd (F := F) G).expect (barCell c) 0 = 2 := by
  unfold Schedule.expect Schedule.amountOf; rw [duties_bar, Finset.sum_congr rfl fun b _ => amount_bar G c b]; rfl
theorem expect_send : (rd (F := F) G).expect (sendCell c k) 0 = N := by
  unfold Schedule.expect Schedule.amountOf; rw [duties_send, Finset.sum_singleton, amount_send]
theorem expect_recv : (rd (F := F) G).expect (recvCell c k) 0 = N := by
  unfold Schedule.expect Schedule.amountOf; rw [duties_recv, Finset.sum_singleton, amount_recv]

theorem payload_bar (b : Bool) : (rd (F := F) G).payload (barCell c) 0 b = barPay c b := by dsimp only [rd]; exact if_pos rfl
theorem payload_recv (b : Bool) : (rd (F := F) G).payload (recvCell c k) 0 b = recvPay G c k := by
  dsimp only [rd]; rw [if_neg (recv_ne_bar k), dif_pos (isRecv k), isRecv_choose]
theorem payload_send (b : Bool) : (rd (F := F) G).payload (sendCell c k) 0 b = sendPay G c k := by
  dsimp only [rd]; rw [if_neg (send_ne_bar k), dif_neg (not_isRecv k), dif_pos (isSend k), isSend_choose]

theorem rest_bar : bigSep ((rd (F := F) G).duties (barCell c) 0 \ ∅) (fun b => (rd (F := F) G).payload (barCell c) 0 b) = bigSep Finset.univ (fresh c) := by
  rw [Finset.sdiff_empty, duties_bar, show (Finset.univ : Finset Bool) = {true, false} from rfl, bigSep_insert (by decide), bigSep_singleton, payload_bar, payload_bar,
    bigSep_filter_split Finset.univ (fun k : Fin 15 => decide (Even k) = true)]
  unfold barPay
  congr 2
theorem rest_send : bigSep ((rd (F := F) G).duties (sendCell c k) 0 \ ∅) (fun b => (rd (F := F) G).payload (sendCell c k) 0 b) = sendPay G c k := by
  rw [Finset.sdiff_empty, duties_send, bigSep_singleton, payload_send]
theorem rest_recv : bigSep ((rd (F := F) G).duties (recvCell c k) 0 \ ∅) (fun b => (rd (F := F) G).payload (recvCell c k) 0 b) = recvPay G c k := by
  rw [Finset.sdiff_empty, duties_recv, bigSep_singleton, payload_recv]

end Sched

/-! ## What a device owes, and the levels -/

/-- What device `c` still owes before copy `n` is started: the landing of every copy from `n` on. -/
def due (n : ℕ) (c : Dev nD) : CellTallies nD τ sig Unit :=
  ∑ k ∈ Finset.univ.filter (fun k : Fin 15 => n ≤ k.val), tallyAt (recvCell (dest k c) k) () N

theorem due_succ (k : Fin 15) (c : Dev nD) : due k.val c = due (k.val + 1) c + tallyAt (recvCell (dest k c) k) () N := by
  have e : (Finset.univ.filter fun k' : Fin 15 => k.val ≤ k'.val) = insert k (Finset.univ.filter fun k' : Fin 15 => k.val + 1 ≤ k'.val) := by
    ext k'; simp only [Finset.mem_filter, Finset.mem_univ, true_and, Finset.mem_insert, Fin.ext_iff]; omega
  unfold due
  rw [e, Finset.sum_insert (by simp), add_comm]
theorem due_end (c : Dev nD) : due 15 c = 0 := by
  unfold due
  rw [show (Finset.univ.filter fun k : Fin 15 => 15 ≤ k.val) = ∅ from by decide, Finset.sum_empty]

/-- At launch: every landing, and one unit on each neighbour's barrier. -/
def O₀ (c : Dev nD) : CellTallies nD τ sig Unit := (due 0 c + tallyAt (barCell (right c)) () 1) + tallyAt (barCell (left c)) () 1

def L (g : GSem nD τ sig) : Finset Unit := if g.1.2 = .tc then {()} else ∅
/-- A barrier is at level 1, the receive semaphore of copy `k` at `2 + k`, the rest at 0. -/
def lv (g : GSem nD τ sig) (_ : Unit) : ℕ := if g.2 = .reg barS then 1 else if h : IsRecv g.2 then 2 + h.choose.val else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (k : Fin 15) (u : Unit) : lv (recvCell c k) u = 2 + k.val := by
  dsimp only [lv]; rw [if_neg (recv_ne_bar k), dif_pos (isRecv k), isRecv_choose]

/-- Whatever is owed before copy `n` is a landing from `n` on. -/
theorem due_pos {n : ℕ} {c : Dev nD} {g : GSem nD τ sig} {u : Unit} (h : 0 < due n c g u) : ∃ k : Fin 15, n ≤ k.val ∧ g = recvCell (dest k c) k := by
  by_contra hn
  push Not at hn
  refine absurd h (Nat.not_lt.mpr (Nat.le_of_eq ?_))
  unfold due
  rw [Finset.sum_apply, Finsupp.finset_sum_apply]
  refine Finset.sum_eq_zero fun k hk => ?_
  rw [tallyAt_apply, if_neg fun e => hn k (Finset.mem_filter.mp hk).2 e.1]

/-- A wait on a cell of one's own at a level below every landing still owed. -/
theorem mayWait (c : Dev nD) (sm : SemLoc sig) (n : ℕ) (h : ∀ k : Fin 15, n ≤ k.val → lv ((c : Thread nD τ), sm) () < 2 + k.val) :
    (levAts L lv : sProp 𝕄) ⊢ MayWait (c : Thread nD τ) sm () (due n c) :=
  MayOwe.of_cut (L := L) (lev := lv) (lv ((c : Thread nD τ), sm) ()) (fun p hp => by rw [Finset.mem_singleton.mp hp, L_tc]; exact Finset.mem_singleton_self _)
    (fun g u hg => by obtain ⟨k, -, rfl⟩ := due_pos hg; rw [L_tc]; exact Finset.mem_singleton_self _)
    (fun p hp => by rw [Finset.mem_singleton.mp hp])
    (fun g u hg => by obtain ⟨k, hk, rfl⟩ := due_pos hg; rw [lv_recv]; exact h k hk)

theorem mayWait_bar (c : Dev nD) : (levAts L lv : sProp 𝕄) ⊢ MayWait (c : Thread nD τ) (.reg barS) () (due 0 c) :=
  mayWait c _ 0 fun k _ => by rw [lv_bar]; omega
theorem mayWait_recv (c : Dev nD) (k : Fin 15) (n : ℕ) (h : k.val < n) : (levAts L lv : sProp 𝕄) ⊢ MayWait (c : Thread nD τ) (.dma (recvS k)) () (due n c) :=
  mayWait c _ n fun k' hk' => by rw [lv_recv]; omega

end Cert.KernelIdeal.Ring

end
-- ==== Proof.Steps.lean ====
/-
# One statement of the ring at a time

A rule for each statement in the terms of the copies: starting copy `k`, awaiting its landing, awaiting its sending,
and adding a block's contribution. Each is stated once, at a copy and a device that are not named.
-/
module

public import proofs.«01_k».proof.Proof.Protocol
public import Idealize.ShloMosaic.Lib.VecWindow

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

abbrev 𝒱₀ : Variants := Variants.none

variable (G : Blocks F) (K : GSem nD τ sig → ℕ) (c : Dev nD)

/-! ## The invariants -/

/-- Every cell's invariant, on every device. -/
def recs : sProp 𝕄 :=
  iprop((bigSep Finset.univ fun d : Dev nD => cellInv ER (rd G) (K (barCell d)) (barCell d))
    ∗ (bigSep Finset.univ fun p : Dev nD × Fin 15 => cellInv ER (rd G) (K (sendCell p.1 p.2)) (sendCell p.1 p.2))
    ∗ (bigSep Finset.univ fun p : Dev nD × Fin 15 => cellInv ER (rd G) (K (recvCell p.1 p.2)) (recvCell p.1 p.2)))

instance recs_persistent : BI.Persistent (recs G K) := by unfold recs; infer_instance

theorem inv_bar (d : Dev nD) : recs G K ⊢ cellInv ER (rd G) (K (barCell d)) (barCell d) := by
  unfold recs; iintro ⟨H, -, -⟩
  ihave H := (show _ ⊢ _ from bigSep_elim (Φ := fun d : Dev nD => cellInv ER (rd G) (K (barCell d)) (barCell d)) (Finset.mem_univ d)) $$ H
  iexact H
theorem inv_send (d : Dev nD) (k : Fin 15) : recs G K ⊢ cellInv ER (rd G) (K (sendCell d k)) (sendCell d k) := by
  unfold recs; iintro ⟨-, H, -⟩
  ihave H := (show _ ⊢ _ from bigSep_elim (Φ := fun p : Dev nD × Fin 15 => cellInv ER (rd G) (K (sendCell p.1 p.2)) (sendCell p.1 p.2)) (Finset.mem_univ (d, k))) $$ H
  iexact H
theorem inv_recv (d : Dev nD) (k : Fin 15) : recs G K ⊢ cellInv ER (rd G) (K (recvCell d k)) (recvCell d k) := by
  unfold recs; iintro ⟨-, -, H⟩
  ihave H := (show _ ⊢ _ from bigSep_elim (Φ := fun p : Dev nD × Fin 15 => cellInv ER (rd G) (K (recvCell p.1 p.2)) (recvCell p.1 p.2)) (Finset.mem_univ (d, k))) $$ H
  iexact H

/-! ## The states of a copy -/

/-- What device `c` needs of its own to start copy `k`. -/
def seed (k : Fin 15) : sProp 𝕄 :=
  iprop(dutyTok ER (recvCell (dest k c) k) 0 true ∗ dutyTok ER (sendCell c k) 0 true ∗ reached ER (sendCell c k) 0 ∗ atPos ER (sendCell c k) 0 ∅ 0)
/-- Copy `k` started; sent, the share of its source back. -/
def sent (k : Fin 15) : sProp 𝕄 := iprop(atPos ER (sendCell c k) 0 ∅ 0 ∗ cred (tallyAt (sendCell c k) () N))
def departed (k : Fin 15) : sProp 𝕄 := iprop(atPos ER (sendCell c k) 1 ∅ 0 ∗ slotPts (share k) c (src k c) G)
/-- The neighbour's copy `k` awaited; landed. -/
def coming (k : Fin 15) : sProp 𝕄 := iprop(atPos ER (recvCell c k) 0 ∅ 0 ∗ cred (tallyAt (recvCell c k) () N))
def landed (k : Fin 15) : sProp 𝕄 := iprop(atPos ER (recvCell c k) 1 ∅ 0 ∗ slotPts fullShare c (land k c) G)

/-- What device `c` still owes, whatever it has waited for so far. -/
def Owes (O : CellTallies nD τ sig Unit) : sProp 𝕄 := iprop(∃ W : Waits sig Unit, owes (c : Thread nD τ) O W)

/-- What a copy leaves in the slot it lands in: its block of `G`. -/
theorem landing (d : Dev nD) (j : Fin 16) (f : Blocks F) :
    (((slot j).view.loc (d : Thread nD τ) ↦[(slot j).view.set]{fullShare} ((slot j).view.write (Elt F) f ((slot j).view.read (Elt F) G) Finset.univ)) : sProp 𝕄)
      = slotPts fullShare d j G := by
  rw [View.write_read_eq_piecewise]
  exact pointsTo_congr fun i hi => Finset.piecewise_eq_of_mem _ _ _ hi

theorem start_wp (k : Fin 15) (Q : PUnit → sProp 𝕄) :
    iprop(recs G K ∗ fresh c k ∗ seed c k ∗ slotPts (share k) c (src k c) G ∗ Owes c (due k.val c))
      ⊢ iprop(((sent c k ∗ Owes c (due (k.val + 1) c)) -∗ Q ⟨⟩) -∗ wp frame (wpE (defs₀ (F := F)) 𝒱₀ c none) Set.univ (start (F := F) c k) Q) := by
  unfold fresh seed sent Owes start startAt Prog.lift
  iintro ⟨#HI, ⟨⟨%f, Hd⟩, #HrV⟩, ⟨HtV, HtS, #HrS, HaS⟩, Hs, ⟨%W, HO⟩⟩ Hk
  iapply (Rounds.wp_send_pointsTo 𝒱₀ ER (rd G) (c : Thread nD τ) none (c' := (dest k c : Thread nD τ)) (src := slot (src k c)) (dst := slot (src k c))
      (sS := .dma (sendS k)) (sem := .dma (recvS k)) (q := share k) (fs := G) (κ₁ := K (sendCell c k)) (κ₂ := K (recvCell (dest k c) k))
      (r₁ := 0) (r₂ := 0) (d₁ := true) (d₂ := true) (fd := f)
      (by rw [duties_send]; exact Finset.mem_singleton_self _) (by rw [duties_recv]; exact Finset.mem_singleton_self _)
      () () N rfl (amount_send G c k true) (amount_recv G (dest k c) k true) (due (k.val + 1) c) (due_succ k c) (W := W)
      (by rw [payload_send]; exact BI.Entails.refl _)
      (by rw [payload_recv]; unfold recvPay; rw [land_dest, landing])) $$ [Hs Hd HO HtS HtV]
  · isplitr; · iapply (inv_send G K c k); iexact HI
    isplitr; · iapply (inv_recv G K (dest k c) k); iexact HI
    isplitl [Hs]; · iexact Hs
    isplitl [Hd]; · iexact Hd
    isplitl [HO]; · iexact HO
    isplitl [HtS]; · iexact HtS
    isplitr; · iexact HrS
    isplitl [HtV]; · iexact HtV
    iexact HrV
  iintro ⟨HcS, HO⟩
  rw [wp_ret]
  imodintro
  iapply Hk
  isplitl [HaS HcS]
  · isplitl [HaS]; · iexact HaS
    iexact HcS
  iexists W; iexact HO

theorem arrive_wp (k : Fin 15) (n : ℕ) (hn : k.val < n) (Q : PUnit → sProp 𝕄) :
    iprop(recs G K ∗ levAts L lv ∗ coming c k ∗ Owes c (due n c))
      ⊢ iprop(((landed G c k ∗ Owes c (due n c)) -∗ Q ⟨⟩) -∗ wp frame (wpE (defs₀ (F := F)) 𝒱₀ c none) Set.univ (arrive (F := F) c k) Q) := by
  unfold coming landed Owes arrive waitAt Prog.lift
  iintro ⟨#HI, #Hlev, ⟨Ha, Hc⟩, ⟨%W, HO⟩⟩ Hk
  iapply (Rounds.wp_wait_rest_token 𝒱₀ ER (rd G) (c : Thread nD τ) none (κ := K (recvCell c k))
      (wpE_waitDma2_eq (src := slot (src k c)) (dst := slot (src k c)) (hsrc := slot_words _) (hdst := slot_words _) 𝒱₀ (c : Thread nD τ) none Set.univ) (Set.mem_univ _) ()
      (O := due n c) (W := W) (R := 0) (m := 0) (T := ∅) ((Nat.zero_add _).trans ((credit_eq (src k c)).trans (expect_recv G c k).symm))) $$ [Hc HO Ha]
  · isplitr; · iapply (inv_recv G K c k); iexact HI
    isplitl [Hc]; · iexact Hc
    isplitl [HO]; · iexact HO
    isplitr; · iapply (mayWait_recv c k n hn); iexact Hlev
    iexact Ha
  iintro ⟨HO, Ha, -, Hpay⟩
  ihave Hs := (Entails.of_eq (rest_recv G c k)) $$ Hpay
  unfold recvPay
  rw [wp_ret]
  imodintro
  iapply Hk
  isplitl [Ha Hs]
  · isplitl [Ha]; · iexact Ha
    iexact Hs
  iexists _; iexact HO

theorem depart_wp (k : Fin 15) (Q : PUnit → sProp 𝕄) :
    iprop(recs G K ∗ sent c k ∗ Owes c 0)
      ⊢ iprop(((departed G c k ∗ Owes c 0) -∗ Q ⟨⟩) -∗ wp frame (wpE (defs₀ (F := F)) 𝒱₀ c none) Set.univ (depart (F := F) c k) Q) := by
  unfold sent departed Owes depart waitAt Prog.lift
  iintro ⟨#HI, ⟨Ha, Hc⟩, ⟨%W, HO⟩⟩ Hk
  iapply (Rounds.wp_wait_rest_token 𝒱₀ ER (rd G) (c : Thread nD τ) none (κ := K (sendCell c k))
      (wpE_waitDma2_eq (src := slot (src k c)) (dst := slot (src k c)) (hsrc := slot_words _) (hdst := slot_words _) 𝒱₀ (c : Thread nD τ) none Set.univ) (Set.mem_univ _) ()
      (O := 0) (W := W) (R := 0) (m := 0) (T := ∅) ((Nat.zero_add _).trans ((credit_eq (src k c)).trans (expect_send G c k).symm))) $$ [Hc HO Ha]
  · isplitr; · iapply (inv_send G K c k); iexact HI
    isplitl [Hc]; · iexact Hc
    isplitl [HO]; · iexact HO
    isplitr; · rw [MayWait_zero]; iempintro
    iexact Ha
  iintro ⟨HO, Ha, -, Hpay⟩
  ihave Hs := (Entails.of_eq (rest_send G c k)) $$ Hpay
  unfold sendPay
  rw [wp_ret]
  imodintro
  iapply Hk
  isplitl [Ha Hs]
  · isplitl [Ha]; · iexact Ha
    iexact Hs
  iexists _; iexact HO

theorem departAll_nil : departAll (F := F) c [] = Prog.ret ⟨⟩ := rfl
theorem departAll_cons (k : Fin 15) (ks : List (Fin 15)) : departAll (F := F) c (k :: ks) = (depart c k >>= fun _ => departAll c ks) := rfl

/-- The sendings awaited one after another. -/
theorem departAll_wp (ks : List (Fin 15)) (Q : PUnit → sProp 𝕄) :
    iprop(recs G K ∗ bigSepL ks (sent (F := F) c) ∗ Owes c 0)
      ⊢ iprop(((bigSepL ks (departed G c) ∗ Owes c 0) -∗ Q ⟨⟩) -∗ wp frame (wpE (defs₀ (F := F)) 𝒱₀ c none) Set.univ (departAll (F := F) c ks) Q) := by
  induction ks with
  | nil =>
    rw [departAll_nil, wp_ret, bigSepL_nil, bigSepL_nil]
    iintro ⟨-, -, HO⟩ Hk
    imodintro
    iapply Hk
    isplitr; · iempintro
    iexact HO
  | cons k ks ih =>
    rw [departAll_cons, wp_bind, bigSepL_cons, bigSepL_cons]
    refine (show iprop(recs G K ∗ (sent c k ∗ bigSepL ks (sent (F := F) c)) ∗ Owes c 0) ⊢ iprop((((departed G c k ∗ bigSepL ks (departed G c)) ∗ Owes c 0) -∗ Q ⟨⟩) -∗ _) from ?_)
    iintro ⟨#HI, ⟨Hk, Hs⟩, HO⟩ Hq
    iapply (depart_wp G K c k _) $$ [Hk HO]
    · isplitr; · iexact HI
      isplitl [Hk]; · iexact Hk
      iexact HO
    iintro ⟨Hd, HO⟩
    iapply ih $$ [Hs HO]
    · isplitr; · iexact HI
      isplitl [Hs]; · iexact Hs
      iexact HO
    iintro ⟨Hds, HO⟩
    iapply Hq
    isplitl [Hd Hds]
    · isplitl [Hd]; · iexact Hd
      iexact Hds
    iexact HO

/-! ## The blocks and the accumulator -/

/-- The block in slot `j`, as it is loaded, and as the contribution takes it. -/
def loaded (j : Fin 16) : Vec F S1x1024x768 .bf16 := (wgM.access (slotRect j)).read (Elt F) G
abbrev block (j : Fin 16) : FVec F S1024x768 .bf16 := shapeCast S1024x768 (loaded G j) shapeCasts_S1x1024x768_S1024x768

/-- A memref's own elements, reading `v`. -/
def memPts {s : Shape} {e : EltTy} (q : PosShare TreeShare) (a : Memref sig .tc .vmem s e) (v : Vec F s e) : sProp 𝕄 :=
  iprop(∃ f : Buf (Elt F) (a.view.loc (c : Thread nD τ)), ⌜a.view.read (Elt F) f = v⌝ ∗ a.view.loc (c : Thread nD τ) ↦[a.view.set]{q} f)

theorem load_wp {s : Shape} {e : EltTy} (q : PosShare TreeShare) (a : Memref sig .tc .vmem s e) (v : Vec F s e) {off : Fin s.rank → ℕ} (inb : ∀ i, off i + s.size i ≤ s.size i)
    (hl : a.view.LoadsAt (Rect.unit off s.size inb).toLoadRect) (Q : Vec F s e → sProp 𝕄) :
    memPts c q a v ⊢ iprop((memPts c q a v -∗ Q v) -∗ wp frame (wpE (defs₀ (F := F)) 𝒱₀ c none) Set.univ (Prog.lift (.load a (Rect.unit off s.size inb).toLoadRect hl)) Q) := by
  unfold memPts Prog.lift
  iintro ⟨%f, %hf, Hs⟩ Hk
  iapply (wp_load 𝒱₀ (c : Thread nD τ) none Set.univ (m := a) (r := (Rect.unit off s.size inb).toLoadRect) (q := q) (f := f) (S := a.view.set)
    (Finset.map_subset_map.mpr (Finset.subset_univ _))) $$ [Hs]
  · iexact Hs
  iintro Hs
  rw [wp_ret, View.readAt_full, hf]
  imodintro
  iapply Hk
  iexists f
  isplitr; · ipureintro; exact hf
  iexact Hs

theorem store_wp {s : Shape} {e : EltTy} (a : Memref sig .tc .vmem s e) (v w : Vec F s e) {off : Fin s.rank → ℕ} (inb : ∀ i, off i + s.size i ≤ s.size i)
    (hx : (a.access (Rect.unit off s.size inb)).Stores Finset.univ) (hm : (Finset.univ : Finset s.Idx) = Finset.univ ∨ ∀ i, (Rect.unit off s.size inb).stride i = 1) (Q : PUnit → sProp 𝕄) :
    memPts c fullShare a v ⊢ iprop((memPts c fullShare a w -∗ Q ⟨⟩)
      -∗ wp frame (wpE (defs₀ (F := F)) 𝒱₀ c none) Set.univ (Prog.lift (.store a (Rect.unit off s.size inb) w Finset.univ hx hm)) Q) := by
  unfold memPts Prog.lift
  iintro ⟨%f, -, Hs⟩ Hk
  iapply (wp_store 𝒱₀ (c : Thread nD τ) none Set.univ (m := a) (r := Rect.unit off s.size inb) (w := w) (Mk := Finset.univ) (f := f) (S := a.view.set)
    (by rw [show (a.access (Rect.unit off s.size inb)).setOn Finset.univ = (Finset.univ.map (Rect.unit off s.size inb).emb).map a.view.emb from (Finset.map_map _ _ _).symm]; exact Finset.map_subset_map.mpr (Finset.subset_univ _))) $$ [Hs]
  · iexact Hs
  iintro Hs
  rw [wp_ret]
  imodintro
  iapply Hk
  iexists _
  isplitr
  rotate_left
  · iexact Hs
  ipureintro
  funext x
  have h := View.read_slice_write_emb (v := a.view) (Val := Elt F) (Rect.unit off s.size inb) f w (M := Finset.univ) (x := x) (Finset.mem_univ _)
  rwa [Rect.emb_unit_full] at h

theorem access_set (j : Fin 16) : (wgM.access (slotRect j)).set = (slot j).view.set := by
  rw [slot_set]; exact View.set_slice_whole _ _

theorem loadJ_wp (q : PosShare TreeShare) (j : Fin 16) (f : Blocks F) (Q : Vec F S1x1024x768 .bf16 → sProp 𝕄) :
    slotPts q c j f ⊢ iprop((slotPts q c j f -∗ Q (loaded f j)) -∗ wp frame (wpE (defs₀ (F := F)) 𝒱₀ c none) Set.univ (loadJ (F := F) j) Q) := by
  unfold loadJ loadSlot Prog.lift loaded
  iintro Hs Hk
  iapply (wp_load_rect 𝒱₀ (c : Thread nD τ) none Set.univ (m := wgM) (r := slotRect j) (q := q) (f := f) (S := (slot j).view.set) (access_set j).subset) $$ [Hs]
  · iexact Hs
  iintro Hs
  rw [wp_ret]
  imodintro
  iapply Hk
  iexact Hs

theorem fillJ_wp (j : Fin 16) (f : Blocks F) (Q : PUnit → sProp 𝕄) :
    slotPts fullShare c j f ⊢ iprop((slotPts fullShare c j G -∗ Q ⟨⟩) -∗ wp frame (wpE (defs₀ (F := F)) 𝒱₀ c none) Set.univ (fillJ (F := F) j (loaded G j)) Q) := by
  unfold fillJ Prog.lift loaded
  iintro Hs Hk
  iapply (wp_store 𝒱₀ (c : Thread nD τ) none Set.univ (m := wgM) (r := slotRect j) (f := f) (S := (slot j).view.set) (access_set j).subset) $$ [Hs]
  · iexact Hs
  iintro Hs
  rw [wp_ret]
  imodintro
  iapply Hk
  rw [View.write_read_eq_piecewise]
  rw [pointsTo_congr (g := G) fun i hi => Finset.piecewise_eq_of_mem _ _ _ (by rw [← access_set j] at hi; exact hi)]
  exact BI.Entails.refl _

theorem loadAll_wp (a : Memref sig .tc .vmem S512x768 .f32) (v : FVec F S512x768 .f32) (Q : Vec F S512x768 .f32 → sProp 𝕄) :
    memPts c fullShare a v ⊢ iprop((memPts c fullShare a v -∗ Q v) -∗ wp frame (wpE (defs₀ (F := F)) 𝒱₀ c none) Set.univ (loadAll (F := F) a) Q) :=
  load_wp c fullShare a v _ _ Q

theorem storeAll_wp (a : Memref sig .tc .vmem S512x768 .f32) (v w : FVec F S512x768 .f32) (Q : PUnit → sProp 𝕄) :
    memPts c fullShare a v ⊢ iprop((memPts c fullShare a w -∗ Q ⟨⟩) -∗ wp frame (wpE (defs₀ (F := F)) 𝒱₀ c none) Set.univ (storeAll (F := F) a w) Q) :=
  store_wp c a v w _ _ _ Q

/-- The accumulator after one more block. -/
abbrev more (x : FVec F S512x768 .bf16) (cos sin : FVec F S512x256 .f32) (rot : FVec F S256x256 .bf16) (a : FVec F S512x768 .f32) (j : Fin 16) : FVec F S512x768 .f32 :=
  shapeCast S512x768 (addf a (contrib x cos sin rot (block G j))) shapeCasts_S512x768_S512x768

theorem addJ_wp (x : FVec F S512x768 .bf16) (cos sin : FVec F S512x256 .f32) (rot : FVec F S256x256 .bf16) (a : FVec F S512x768 .f32) (q : PosShare TreeShare) (j : Fin 16) (Q : PUnit → sProp 𝕄) :
    iprop(slotPts q c j G ∗ memPts c fullShare accM a)
      ⊢ iprop(((slotPts q c j G ∗ memPts c fullShare accM (more G x cos sin rot a j)) -∗ Q ⟨⟩)
        -∗ wp frame (wpE (defs₀ (F := F)) 𝒱₀ c none) Set.univ (addJ (F := F) x cos sin rot j) Q) := by
  unfold addJ addChunk
  iintro ⟨Hs, Ha⟩ Hk
  rw [wp_bind]
  iapply (loadJ_wp c q j G) $$ Hs
  iintro Hs
  rw [wp_bind]
  iapply (loadAll_wp c accM a) $$ Ha
  iintro Ha
  rw [wp_bind]
  iapply (loadAll_wp c accM a) $$ Ha
  iintro Ha
  iapply (storeAll_wp c accM a) $$ Ha
  iintro Ha
  iapply Hk
  isplitl [Hs]; · iexact Hs
  iexact Ha

end Cert.KernelIdeal.Ring

end
-- ==== Proof.Run.lean ====
/-
# The run of the ring on one device

The statements composed: what has landed and what has been started are two families over the fifteen copies, each cut
at a number. Taking a landed copy and starting its successor moves both cuts by one.
-/
module

public import proofs.«01_k».proof.Proof.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (G : Blocks F) (K : GSem nD τ sig → ℕ) (c : Dev nD)

/-! ## The two families -/

/-- A landed block as it is kept: the share that the loads read with, and of the two that nobody forwards the rest. -/
def kept (k : Fin 15) : sProp 𝕄 :=
  iprop(atPos ER (recvCell c k) 1 ∅ 0 ∗ slotPts fullShare.right c (land k c) G ∗ (if k.val < 13 then iprop(emp) else slotPts fullShare.left c (land k c) G))

/-- The first `p` copies have landed; the first `n` have been started. -/
def arrivals (p : ℕ) (k : Fin 15) : sProp 𝕄 := if k.val < p then kept G c k else coming c k
def starts (n : ℕ) (k : Fin 15) : sProp 𝕄 := if k.val < n then sent c k else iprop(fresh c k ∗ seed c k)

theorem arrivals_take (k : Fin 15) :
    bigSep Finset.univ (arrivals G c k.val) ⊢ iprop(coming c k ∗ (kept G c k -∗ bigSep Finset.univ (arrivals G c (k.val + 1)))) := by
  have h := bigSep_univ_update (Φ := arrivals G c k.val) (Ψ := arrivals G c (k.val + 1)) k fun j hj => by
    have := Fin.val_ne_of_ne hj
    unfold arrivals
    by_cases hlt : j.val < k.val
    · rw [if_pos hlt, if_pos (by omega)]
    · rw [if_neg hlt, if_neg (by omega)]
  rwa [show arrivals G c k.val k = coming c k from if_neg (lt_irrefl _), show arrivals G c (k.val + 1) k = kept G c k from if_pos (Nat.lt_succ_self _)] at h

theorem starts_take (k : Fin 15) :
    bigSep Finset.univ (starts (F := F) c k.val) ⊢ iprop((fresh c k ∗ seed c k) ∗ (sent c k -∗ bigSep Finset.univ (starts c (k.val + 1)))) := by
  have h := bigSep_univ_update (Φ := starts (F := F) c k.val) (Ψ := starts c (k.val + 1)) k fun j hj => by
    have := Fin.val_ne_of_ne hj
    unfold starts
    by_cases hlt : j.val < k.val
    · rw [if_pos hlt, if_pos (by omega)]
    · rw [if_neg hlt, if_neg (by omega)]
  rwa [show starts (F := F) c k.val k = iprop(fresh c k ∗ seed c k) from if_neg (lt_irrefl _), show starts (F := F) c (k.val + 1) k = sent c k from if_pos (Nat.lt_succ_self _)] at h

theorem arrivals_read (p : ℕ) (k : Fin 15) (h : k.val < p) :
    bigSep Finset.univ (arrivals G c p) ⊢ iprop(kept G c k ∗ (kept G c k -∗ bigSep Finset.univ (arrivals G c p))) := by
  have h' := bigSep_univ_update (Φ := arrivals G c p) (Ψ := arrivals G c p) k fun _ _ => rfl
  rwa [show arrivals G c p k = kept G c k from if_pos h] at h'

/-- The first `p` have landed and the first `n` have been started. -/
def Inv (p n : ℕ) : sProp 𝕄 := iprop(bigSep Finset.univ (arrivals G c p) ∗ bigSep Finset.univ (starts c n) ∗ Owes c (due n c))

theorem halves (j : Fin 16) (q : PosShare TreeShare) : slotPts q c j G = iprop(slotPts q.left c j G ∗ slotPts q.right c j G) := by
  unfold slotPts
  exact BI.equiv_iff.mp ⟨(pointsTo_share (PosShare.mem_left_op_right q)).1, (pointsTo_share (PosShare.mem_left_op_right q)).2⟩

/-- A copy that lands is forwarded: copy `p` taken, copy `p + 2` started. -/
theorem hop {α : Type} (p : ℕ) (hp : p < 13) (X : Prog (TpuEff nD τ sig (Elt F) Λ₀ .tc) α) (Q : α → sProp 𝕄) :
    iprop(recs G K ∗ levAts L lv ∗ Inv G c p (p + 2))
      ⊢ iprop((Inv G c (p + 1) (p + 3) -∗ wp frame (wpE (defs₀ (F := F)) 𝒱₀ c none) Set.univ X Q)
        -∗ wp frame (wpE (defs₀ (F := F)) 𝒱₀ c none) Set.univ (arrive c ⟨p, by omega⟩ >>= fun _ => start c ⟨p + 2, by omega⟩ >>= fun _ => X) Q) := by
  have h0 : p < 15 := by omega
  have h2 : p + 2 < 15 := by omega
  unfold Inv
  iintro ⟨#HI, #Hlev, ⟨HA, HS, HO⟩⟩ Hk
  rw [wp_bind]
  ihave HA := (arrivals_take G c ⟨p, h0⟩) $$ HA
  icases HA with ⟨Hc, HA⟩
  iapply (arrive_wp G K c ⟨p, h0⟩ (p + 2) (by show p < p + 2; omega)) $$ [Hc HO]
  · isplitr; · iexact HI
    isplitr; · iexact Hlev
    isplitl [Hc]; · iexact Hc
    iexact HO
  unfold landed
  iintro ⟨⟨Hat, Hs⟩, HO⟩
  rw [wp_bind]
  ihave Hs := (Entails.of_eq (halves G c _ fullShare)) $$ Hs
  icases Hs with ⟨Hl, Hr⟩
  ihave HS := (starts_take c ⟨p + 2, h2⟩) $$ HS
  icases HS with ⟨⟨Hf, Hsd⟩, HS⟩
  iapply (start_wp G K c ⟨p + 2, h2⟩) $$ [Hf Hsd Hl HO]
  · isplitr; · iexact HI
    isplitl [Hf]; · iexact Hf
    isplitl [Hsd]; · iexact Hsd
    isplitl [Hl]
    · rw [src_next ⟨p, hp⟩ c, show share ⟨p + 2, h2⟩ = fullShare.left from if_neg (by simp [Fin.ext_iff])]
      iexact Hl
    iexact HO
  iintro ⟨Hsent, HO⟩
  iapply Hk
  isplitl [HA Hat Hr]
  · iapply HA
    unfold kept
    rw [if_pos (show (⟨p, h0⟩ : Fin 15).val < 13 from hp)]
    isplitl [Hat]; · iexact Hat
    isplitl [Hr]; · iexact Hr
    iempintro
  isplitl [HS Hsent]
  · iapply HS; iexact Hsent
  iexact HO

/-- The last two copies are only kept. -/
theorem take (p n : ℕ) (hp : p < 15) (h : ¬ p < 13) (hn : p < n) (Q : PUnit → sProp 𝕄) :
    iprop(recs G K ∗ levAts L lv ∗ Inv G c p n)
      ⊢ iprop((Inv G c (p + 1) n -∗ Q ⟨⟩) -∗ wp frame (wpE (defs₀ (F := F)) 𝒱₀ c none) Set.univ (arrive c ⟨p, hp⟩) Q) := by
  unfold Inv
  iintro ⟨#HI, #Hlev, ⟨HA, HS, HO⟩⟩ Hk
  ihave HA := (arrivals_take G c ⟨p, hp⟩) $$ HA
  icases HA with ⟨Hc, HA⟩
  iapply (arrive_wp G K c ⟨p, hp⟩ n hn) $$ [Hc HO]
  · isplitr; · iexact HI
    isplitr; · iexact Hlev
    isplitl [Hc]; · iexact Hc
    iexact HO
  unfold landed
  iintro ⟨⟨Hat, Hs⟩, HO⟩
  ihave Hs := (Entails.of_eq (halves G c _ fullShare)) $$ Hs
  icases Hs with ⟨Hl, Hr⟩
  iapply Hk
  isplitl [HA Hat Hr Hl]
  · iapply HA
    unfold kept
    rw [if_neg (show ¬ (⟨p, hp⟩ : Fin 15).val < 13 from h)]
    isplitl [Hat]; · iexact Hat
    isplitl [Hr]; · iexact Hr
    iexact Hl
  isplitl [HS]; · iexact HS
  iexact HO

variable (x : FVec F S512x768 .bf16) (cos sin : FVec F S512x256 .f32) (rot : FVec F S256x256 .bf16)

/-- A landed block's contribution added. -/
theorem addK (p n : ℕ) (k : Fin 15) (h : k.val < p) (a : FVec F S512x768 .f32) (Q : PUnit → sProp 𝕄) :
    iprop(Inv G c p n ∗ memPts c fullShare accM a)
      ⊢ iprop(((Inv G c p n ∗ memPts c fullShare accM (more G x cos sin rot a (land k c))) -∗ Q ⟨⟩)
        -∗ wp frame (wpE (defs₀ (F := F)) 𝒱₀ c none) Set.univ (addJ x cos sin rot (land k c)) Q) := by
  unfold Inv
  iintro ⟨⟨HA, HS, HO⟩, Hacc⟩ Hk
  ihave HA := (arrivals_read G c p k h) $$ HA
  unfold kept
  icases HA with ⟨⟨Hat, Hr, Hrest⟩, HA⟩
  iapply (addJ_wp G c x cos sin rot a fullShare.right (land k c)) $$ [Hr Hacc]
  · isplitl [Hr]; · iexact Hr
    iexact Hacc
  iintro ⟨Hr, Hacc⟩
  iapply Hk
  isplitl [HA Hat Hr Hrest HS HO]
  · isplitl [HA Hat Hr Hrest]
    · iapply HA
      isplitl [Hat]; · iexact Hat
      isplitl [Hr]; · iexact Hr
      iexact Hrest
    isplitl [HS]; · iexact HS
    iexact HO
  iexact Hacc

/-- One step: two copies forwarded, their two contributions added. -/
theorem stepK_wp (s : Fin 6) (a : FVec F S512x768 .f32) (Q : PUnit → sProp 𝕄) :
    iprop(recs G K ∗ levAts L lv ∗ Inv G c (2 * s.val) (2 * s.val + 2) ∗ memPts c fullShare accM a)
      ⊢ iprop(((Inv G c (2 * s.val + 2) (2 * s.val + 4)
            ∗ memPts c fullShare accM (more G x cos sin rot (more G x cos sin rot a (land ⟨2 * s.val, by omega⟩ c)) (land ⟨2 * s.val + 1, by omega⟩ c))) -∗ Q ⟨⟩)
        -∗ wp frame (wpE (defs₀ (F := F)) 𝒱₀ c none) Set.univ (stepK c x cos sin rot s) Q) := by
  have h0 : 2 * s.val < 15 := by omega
  have h1 : 2 * s.val + 1 < 15 := by omega
  unfold stepK
  iintro ⟨#HI, #Hlev, Hinv, Hacc⟩ Hk
  iapply (hop G K c (2 * s.val) (by omega)) $$ [Hinv]
  · isplitr; · iexact HI
    isplitr; · iexact Hlev
    iexact Hinv
  iintro Hinv
  iapply (hop G K c (2 * s.val + 1) (by omega)) $$ [Hinv]
  · isplitr; · iexact HI
    isplitr; · iexact Hlev
    iexact Hinv
  iintro Hinv
  rw [wp_bind]
  iapply (addK G c x cos sin rot (2 * s.val + 2) (2 * s.val + 4) ⟨2 * s.val, h0⟩ (by show 2 * s.val < 2 * s.val + 2; omega) a) $$ [Hinv Hacc]
  · isplitl [Hinv]; · iexact Hinv
    iexact Hacc
  iintro ⟨Hinv, Hacc⟩
  iapply (addK G c x cos sin rot (2 * s.val + 2) (2 * s.val + 4) ⟨2 * s.val + 1, h1⟩ (by show 2 * s.val + 1 < 2 * s.val + 2; omega)) $$ [Hinv Hacc]
  · isplitl [Hinv]; · iexact Hinv
    iexact Hacc
  iexact Hk

/-- The own block's contribution, and with it those of the copies in the order in which they land: the result. -/
def first : FVec F S512x768 .f32 := shapeCast S512x768 (contrib x cos sin rot (block G c)) shapeCasts_S512x768_S512x768
def result : FVec F S512x768 .f32 :=
  ([0, 1, 2, 3, 4, 5, 6, 7, 8, 9, 10, 11, 12, 13, 14] : List (Fin 15)).foldl (fun a k => more G x cos sin rot a (land k c)) (first G c x cos sin rot)

/-- What the ring takes, and what it leaves. -/
def ringPre (out : Memref sig .tc .vmem S512x768 .f32) : sProp 𝕄 :=
  iprop(bigSep Finset.univ (coming c) ∗ bigSep Finset.univ (fun k => iprop(fresh c k ∗ seed c k)) ∗ Owes c (due 0 c)
    ∗ (∃ f : Blocks F, slotPts fullShare c c f) ∗ (∃ a, memPts c fullShare accM a) ∗ (∃ o, memPts c fullShare out o))
def ringPost (out : Memref sig .tc .vmem S512x768 .f32) : sProp 𝕄 :=
  iprop(bigSep Finset.univ (kept G c) ∗ bigSepL departs (departed G c) ∗ Owes c 0
    ∗ slotPts fullShare.right.right c c G ∗ (∃ a, memPts c fullShare accM a) ∗ memPts c fullShare out (result G c x cos sin rot))

theorem starts_end : bigSep Finset.univ (starts (F := F) c 15) = bigSepL departs (sent c) := by
  rw [show bigSep Finset.univ (starts (F := F) c 15) = bigSep Finset.univ (sent c) from bigSep_congr fun k _ => if_pos k.isLt]
  exact bigSep_univ_eq_bigSepL departs (by decide) (by decide) _
theorem arrivals_end : bigSep Finset.univ (arrivals G c 15) = bigSep Finset.univ (kept G c) := bigSep_congr fun k _ => if_pos k.isLt

set_option maxHeartbeats 1600000 in
theorem ring_wp (out : Memref sig .tc .vmem S512x768 .f32) (Q : PUnit → sProp 𝕄) :
    iprop(recs G K ∗ levAts L lv ∗ ringPre c out)
      ⊢ iprop((ringPost G c x cos sin rot out -∗ Q ⟨⟩)
        -∗ wp frame (wpE (defs₀ (F := F)) 𝒱₀ c none) Set.univ (ring c x cos sin rot (loaded G c) out) Q) := by
  unfold ring ringPre
  iintro ⟨#HI, #Hlev, HA, HS, HO, ⟨%f, Hown⟩, ⟨%a, Hacc⟩, ⟨%o, Hout⟩⟩ Hk
  rw [wp_bind]
  iapply (loadJ_wp c fullShare c f) $$ Hown
  iintro Hown
  rw [wp_bind]
  iapply (fillJ_wp G c c f) $$ Hown
  iintro Hown
  ihave Hown := (Entails.of_eq (halves G c c fullShare)) $$ Hown
  icases Hown with ⟨H0, Hown⟩
  ihave Hown := (Entails.of_eq (halves G c c fullShare.right)) $$ Hown
  icases Hown with ⟨H1, Hown⟩
  -- the two copies of the own block
  rw [wp_bind]
  ihave HS := (starts_take c 0) $$ [HS]
  · iexact HS
  icases HS with ⟨⟨Hf, Hsd⟩, HS⟩
  iapply (start_wp G K c 0) $$ [Hf Hsd H0 HO]
  · isplitr; · iexact HI
    isplitl [Hf]; · iexact Hf
    isplitl [Hsd]; · iexact Hsd
    isplitl [H0]
    · rw [src_zero]; iexact H0
    iexact HO
  iintro ⟨Hsent, HO⟩
  ihave HS := HS $$ Hsent
  rw [wp_bind]
  ihave HS := (starts_take c 1) $$ [HS]
  · iexact HS
  icases HS with ⟨⟨Hf, Hsd⟩, HS⟩
  iapply (start_wp G K c 1) $$ [Hf Hsd H1 HO]
  · isplitr; · iexact HI
    isplitl [Hf]; · iexact Hf
    isplitl [Hsd]; · iexact Hsd
    isplitl [H1]
    · rw [src_one]; iexact H1
    iexact HO
  iintro ⟨Hsent, HO⟩
  ihave HS := HS $$ Hsent
  -- the own contribution
  rw [wp_bind]
  iapply (loadJ_wp c fullShare.right.right c G) $$ Hown
  iintro Hown
  rw [wp_bind]
  iapply (loadAll_wp c accM a) $$ Hacc
  iintro Hacc
  rw [wp_bind]
  iapply (storeAll_wp c accM a (first G c x cos sin rot)) $$ Hacc
  iintro Hacc
  ihave Hinv : Inv G c 0 2 $$ [HA HS HO]
  · unfold Inv
    isplitl [HA]; · iexact HA
    isplitl [HS]; · iexact HS
    iexact HO
  -- six steps
  rw [wp_bind]
  iapply (stepK_wp G K c x cos sin rot 0) $$ [Hinv Hacc]
  · isplitr; · iexact HI
    isplitr; · iexact Hlev
    isplitl [Hinv]; · iexact Hinv
    iexact Hacc
  iintro ⟨Hinv, Hacc⟩
  rw [wp_bind]
  iapply (stepK_wp G K c x cos sin rot 1) $$ [Hinv Hacc]
  · isplitr; · iexact HI
    isplitr; · iexact Hlev
    isplitl [Hinv]; · iexact Hinv
    iexact Hacc
  iintro ⟨Hinv, Hacc⟩
  rw [wp_bind]
  iapply (stepK_wp G K c x cos sin rot 2) $$ [Hinv Hacc]
  · isplitr; · iexact HI
    isplitr; · iexact Hlev
    isplitl [Hinv]; · iexact Hinv
    iexact Hacc
  iintro ⟨Hinv, Hacc⟩
  rw [wp_bind]
  iapply (stepK_wp G K c x cos sin rot 3) $$ [Hinv Hacc]
  · isplitr; · iexact HI
    isplitr; · iexact Hlev
    isplitl [Hinv]; · iexact Hinv
    iexact Hacc
  iintro ⟨Hinv, Hacc⟩
  rw [wp_bind]
  iapply (stepK_wp G K c x cos sin rot 4) $$ [Hinv Hacc]
  · isplitr; · iexact HI
    isplitr; · iexact Hlev
    isplitl [Hinv]; · iexact Hinv
    iexact Hacc
  iintro ⟨Hinv, Hacc⟩
  rw [wp_bind]
  iapply (stepK_wp G K c x cos sin rot 5) $$ [Hinv Hacc]
  · isplitr; · iexact HI
    isplitr; · iexact Hlev
    isplitl [Hinv]; · iexact Hinv
    iexact Hacc
  iintro ⟨Hinv, Hacc⟩
  -- the last three
  iapply (hop G K c 12 (by omega)) $$ [Hinv]
  · isplitr; · iexact HI
    isplitr; · iexact Hlev
    iexact Hinv
  iintro Hinv
  rw [wp_bind]
  iapply (take G K c 13 15 (by omega) (by omega) (by omega)) $$ [Hinv]
  · isplitr; · iexact HI
    isplitr; · iexact Hlev
    iexact Hinv
  iintro Hinv
  rw [wp_bind]
  iapply (addK G c x cos sin rot 14 15 12 (by decide)) $$ [Hinv Hacc]
  · isplitl [Hinv]; · iexact Hinv
    iexact Hacc
  iintro ⟨Hinv, Hacc⟩
  rw [wp_bind]
  iapply (addK G c x cos sin rot 14 15 13 (by decide)) $$ [Hinv Hacc]
  · isplitl [Hinv]; · iexact Hinv
    iexact Hacc
  iintro ⟨Hinv, Hacc⟩
  rw [wp_bind]
  iapply (take G K c 14 15 (by omega) (by omega) (by omega)) $$ [Hinv]
  · isplitr; · iexact HI
    isplitr; · iexact Hlev
    iexact Hinv
  iintro Hinv
  rw [wp_bind]
  iapply (addK G c x cos sin rot 15 15 14 (by decide)) $$ [Hinv Hacc]
  · isplitl [Hinv]; · iexact Hinv
    iexact Hacc
  iintro ⟨Hinv, Hacc⟩
  -- the result
  rw [wp_bind]
  iapply (loadAll_wp c accM (result G c x cos sin rot)) $$ [Hacc]
  · iexact Hacc
  iintro Hacc
  rw [wp_bind]
  iapply (loadAll_wp c out o) $$ Hout
  iintro Hout
  rw [wp_bind]
  iapply (storeAll_wp c out o) $$ Hout
  iintro Hout
  -- the copies sent are all awaited
  unfold Inv
  rw [starts_end, arrivals_end, due_end]
  icases Hinv with ⟨HA, HS, HO⟩
  iapply (departAll_wp G K c departs) $$ [HS HO]
  · isplitr; · iexact HI
    isplitl [HS]; · iexact HS
    iexact HO
  iintro ⟨HD, HO⟩
  iapply Hk
  unfold ringPost
  isplitl [HA]; · iexact HA
  isplitl [HD]; · iexact HD
  isplitl [HO]; · iexact HO
  isplitl [Hown]; · iexact Hown
  isplitl [Hacc]; · iexists _; iexact Hacc
  iexact Hout

end Cert.KernelIdeal.Ring

end
-- ==== Proof.Device.lean ====
/-
# One device's run

The handshake with the two neighbours before the ring, the slots of the scratch split and joined again around it, and
every semaphore closed after it: the whole kernel body as one rule.
-/
module

public import proofs.«01_k».proof.Proof.Run
public import Idealize.ShloMosaic.Harness.Basic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg BodyObligation cellOf)

variable {F : FTy → Type} [FloatOps F]

local notation "𝕄" => MT nD τ sig Unit (Elt F) ℕ UU ℕ

variable (G : Blocks F) (K : GSem nD τ sig → ℕ) (c : Dev nD)

/-! ## The slots -/

/-- The scratch of the gathered blocks, whole, is the own slot and the fifteen in which the copies land. -/
theorem slots_split (f : Blocks F) :
    (((c : Thread nD τ).loc cc0_scratch0) ↦{fullShare} f : sProp 𝕄)
      = iprop(slotPts fullShare c c f ∗ bigSep Finset.univ fun k : Fin 15 => slotPts fullShare c (land k c) f) := by
  have h := Idealize.ShloMosaic.Ring.pointsTo_blocks (Ix := Unit) (Name := ℕ) (U := UU) (Lvl := ℕ) (ℓ := ((c : Thread nD τ).loc cc0_scratch0)) (q := fullShare) slotSet slot_disjoint slot_cover f
  refine h.trans ?_
  rw [slots_univ c, bigSep_insert (fun hm => by
      obtain ⟨k, -, hk⟩ := Finset.mem_image.mp hm
      exact land_ne k c hk), bigSep_image_of_injOn (fun a _ b _ e => land_inj c e)]
  rfl

/-! ## The handshake -/

/-- A slot of the device's own ready for the copy `k` that it receives. -/
def ready (k : Fin 15) : sProp 𝕄 := iprop((∃ f : Blocks F, slotPts fullShare c (land k c) f) ∗ reached ER (recvCell c k) 0)

theorem fresh_frm (k : Fin 15) : fresh (F := F) (frm k c) k = ready c k := by
  unfold fresh ready
  rw [dest_frm, src_frm]

/-- The slots are handed to the neighbours whose copies land in them. -/
theorem hand : bigSep Finset.univ (ready (F := F) c) = iprop(barPay (left c) true ∗ barPay (right c) false) := by
  rw [bigSep_filter_split Finset.univ (fun k : Fin 15 => decide (Even k) = true)]
  unfold barPay
  congr 1
  · refine bigSep_congr fun k hk => ?_
    rw [← fresh_frm, frm, if_pos (of_decide_eq_true (Finset.mem_filter.mp hk).2)]
  · rw [show (Finset.univ.filter fun k : Fin 15 => ¬ decide (Even k) = true) = Finset.univ.filter fun k : Fin 15 => decide (Even k) = false from
      Finset.filter_congr fun k _ => by simp]
    refine bigSep_congr fun k hk => ?_
    rw [← fresh_frm, frm, if_neg (of_decide_eq_false (Finset.mem_filter.mp hk).2)]

/-- What the device has at its barrier. -/
def barPre : sProp 𝕄 :=
  iprop(atPos ER (barCell c) 0 ∅ 0 ∗ cred (tallyAt (barCell c) () 2) ∗ dutyTok ER (barCell (left c)) 0 true ∗ dutyTok ER (barCell (right c)) 0 false
    ∗ reached ER (barCell (left c)) 0 ∗ reached ER (barCell (right c)) 0)

/-- Two signals and the wait for two: the own slots go to the neighbours, theirs come. -/
theorem handshake {α : Type} (X : Prog (TpuEff nD τ sig (Elt F) Λ₀ .tc) α) (Q : α → sProp 𝕄) :
    iprop(recs G K ∗ levAts L lv ∗ barPre c ∗ bigSep Finset.univ (ready c) ∗ Owes c (O₀ c))
      ⊢ iprop(((atPos ER (barCell c) 1 ∅ 0 ∗ bigSep Finset.univ (fresh c) ∗ Owes c (due 0 c)) -∗ wp frame (wpE (defs₀ (F := F)) 𝒱₀ c none) Set.univ X Q)
        -∗ wp frame (wpE (defs₀ (F := F)) 𝒱₀ c none) Set.univ
            (semSignalWord (left c) barS 1#32 >>= fun _ => semSignalWord (right c) barS 1#32 >>= fun _ => semWaitWord barS 2#32 >>= fun _ => X) Q) := by
  simp only [semSignalWord, semWaitWord, Prog.bind_op, Prog.bind_ret]
  unfold barPre Owes
  rw [hand]
  iintro ⟨#HI, #Hlev, ⟨Hat, Hc, Ht, Hf, #Hrl, #Hrr⟩, ⟨HpT, HpF⟩, ⟨%W, HO⟩⟩ Hk
  iapply (Rounds.wp_signal 𝒱₀ ER (rd G) (c : Thread nD τ) none (dst := (left c : Thread nD τ)) (sem := barS) (r := 0) (d := true) (κ := K (barCell (left c)))
      (by rw [duties_bar]; exact Finset.mem_univ _) ((amount_bar G (left c) true).trans (by decide)) () (due 0 c + tallyAt (barCell (right c)) () 1) rfl) $$ [HO Ht HpT]
  · isplitr; · iapply (inv_bar G K (left c)); iexact HI
    isplitl [HO]; · iexact HO
    isplitl [Ht]; · iexact Ht
    isplitl [HpT]
    · rw [payload_bar]; iexact HpT
    iexact Hrl
  iintro HO
  iapply (Rounds.wp_signal 𝒱₀ ER (rd G) (c : Thread nD τ) none (dst := (right c : Thread nD τ)) (sem := barS) (r := 0) (d := false) (κ := K (barCell (right c)))
      (by rw [duties_bar]; exact Finset.mem_univ _) ((amount_bar G (right c) false).trans (by decide)) () (due 0 c) rfl) $$ [HO Hf HpF]
  · isplitr; · iapply (inv_bar G K (right c)); iexact HI
    isplitl [HO]; · iexact HO
    isplitl [Hf]; · iexact Hf
    isplitl [HpF]
    · rw [payload_bar]; iexact HpF
    iexact Hrr
  iintro HO
  iapply (Rounds.wp_wait_rest_token 𝒱₀ ER (rd G) (c : Thread nD τ) none (κ := K (barCell c))
      (wpE_semWait_eq 𝒱₀ (c : Thread nD τ) none Set.univ) (Set.mem_univ _) () (O := due 0 c) (W := W) (R := 0) (m := 0) (T := ∅)
      ((Nat.zero_add _).trans (expect_bar G c).symm)) $$ [Hc HO Hat]
  · isplitr; · iapply (inv_bar G K c); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar G c)) $$ Hpay
  iapply Hk
  isplitl [Hat]; · iexact Hat
  isplitl [Hp]; · iexact Hp
  iexists _; iexact HO

/-! ## The end -/

/-- The share of the own slot that the sending of copy `k + 2` brings back besides its landed block. -/
def extra (k : Fin 15) : sProp 𝕄 :=
  if k = 13 then slotPts fullShare.left c c G else if k = 14 then slotPts fullShare.right.left c c G else iprop(emp)

theorem rejoin_one (k : Fin 15) :
    iprop((slotPts fullShare.right c (land k c) G ∗ (if k.val < 13 then iprop(emp) else slotPts fullShare.left c (land k c) G)) ∗ slotPts (share (k + 2)) c (src (k + 2) c) G)
      ⊢ iprop(slotPts fullShare c (land k c) G ∗ extra G c k) := by
  rw [halves G c (land k c) fullShare]
  unfold extra
  by_cases hk : k.val < 13
  · have e : k + 2 = ⟨k.val + 2, by omega⟩ := Fin.ext (by rw [Fin.val_add]; exact Nat.mod_eq_of_lt (by show k.val + 2 < 15; omega))
    rw [if_pos hk, e, src_next ⟨k.val, hk⟩ c, show share ⟨k.val + 2, by omega⟩ = fullShare.left from if_neg (by simp [Fin.ext_iff]),
      if_neg (by rintro rfl; exact absurd hk (by decide)), if_neg (by rintro rfl; exact absurd hk (by decide))]
    iintro ⟨⟨Hr, -⟩, Hl⟩
    isplitl
    · isplitl [Hl]; · iexact Hl
      iexact Hr
    iempintro
  · rw [if_neg hk]
    obtain rfl | rfl : k = 13 ∨ k = 14 := by
      rw [Fin.ext_iff, Fin.ext_iff]; show k.val = 13 ∨ k.val = 14; omega
    · rw [if_pos rfl, show (13 : Fin 15) + 2 = 0 from rfl, src_zero, show share 0 = fullShare.left from if_neg (by decide)]
      iintro ⟨⟨Hr, Hl⟩, Hs⟩
      isplitr [Hs]
      · isplitl [Hl]; · iexact Hl
        iexact Hr
      iexact Hs
    · rw [if_neg (by decide), if_pos rfl, show (14 : Fin 15) + 2 = 1 from rfl, src_one, show share 1 = fullShare.right.left from if_pos rfl]
      iintro ⟨⟨Hr, Hl⟩, Hs⟩
      isplitr [Hs]
      · isplitl [Hl]; · iexact Hl
        iexact Hr
      iexact Hs

theorem extra_own : bigSep Finset.univ (extra G c) ⊢ iprop(slotPts fullShare.left c c G ∗ slotPts fullShare.right.left c c G) := by
  rw [bigSep_univ_at _ (13 : Fin 15)]
  refine sep_mono (Entails.of_eq (if_pos rfl)) ?_
  refine (show _ ⊢ _ from bigSep_elim (Φ := extra G c) (Finset.mem_erase.mpr ⟨(by decide : (14 : Fin 15) ≠ 13), Finset.mem_univ _⟩)).trans (Entails.of_eq ?_)
  unfold extra
  rw [if_neg (by decide), if_pos rfl]

/-- Two further. -/
def two : Fin 15 ≃ Fin 15 := ⟨fun k => k + 2, fun k => k - 2, by decide, by decide⟩

/-- All shares of the slots back: the scratch whole, at the gathered blocks. -/
theorem rejoin :
    iprop(bigSep Finset.univ (kept G c) ∗ bigSep Finset.univ (departed G c) ∗ slotPts fullShare.right.right c c G)
      ⊢ iprop((((c : Thread nD τ).loc cc0_scratch0) ↦{fullShare} G)
        ∗ bigSep Finset.univ (fun k => atPos ER (recvCell c k) 1 ∅ 0) ∗ bigSep Finset.univ (fun k => atPos ER (sendCell c k) 1 ∅ 0)) := by
  unfold kept departed
  rw [bigSep_sep', bigSep_sep', bigSep_sep', slots_split, bigSep_univ_equiv two (fun k => slotPts (share k) c (src k c) G)]
  iintro ⟨⟨Hv, Hk⟩, ⟨Hs, Hd⟩, Ho⟩
  isplitr [Hv Hs]
  · ihave H := (bigSep_pair (Φ := fun k : Fin 15 => iprop(slotPts fullShare.right c (land k c) G ∗ (if k.val < 13 then iprop(emp) else slotPts fullShare.left c (land k c) G)))
      (Ψ := fun k : Fin 15 => slotPts (share (k + 2)) c (src (k + 2) c) G)) $$ [Hk Hd]
    · isplitl [Hk]
      · rw [bigSep_sep']; iexact Hk
      iexact Hd
    ihave H := (show _ ⊢ bigSep Finset.univ (fun k => iprop(slotPts fullShare c (land k c) G ∗ extra G c k)) from bigSep_mono fun k _ => rejoin_one G c k) $$ H
    ihave H := bigSep_unpair $$ H
    icases H with ⟨Hl, He⟩
    ihave He := (extra_own G c) $$ He
    icases He with ⟨H0, H1⟩
    isplitr [Hl]
    · rw [halves G c c fullShare, halves G c c fullShare.right]
      isplitl [H0]; · iexact H0
      isplitl [H1]; · iexact H1
      iexact Ho
    iexact Hl
  isplitl [Hv]; · iexact Hv
  iexact Hs

theorem close (g : GSem nD τ sig) : iprop(cellInv ER (rd G) (K g) g ∗ atPos ER g 1 ∅ 0) ⊢ (|={Set.univ}=> semVal g 0 : sProp 𝕄) :=
  Rounds.cell_close ER (rd G) (Set.mem_univ _) id (duties_later G g)

theorem closeRecv : iprop(recs G K ∗ bigSep Finset.univ (fun k => atPos ER (recvCell c k) 1 ∅ 0)) ⊢ (|={Set.univ}=> bigSep Finset.univ (fun k => semVal (recvCell c k) 0) : sProp 𝕄) := by
  refine (bigSep_with_persistent (Ψ := fun k : Fin 15 => iprop(|={Set.univ}=> semVal (recvCell c k) 0)) fun k _ => ?_).trans (bigSep_fupd _ _)
  iintro ⟨HI, Ha⟩
  iapply (close G K (recvCell c k))
  isplitl [HI]; · iapply (inv_recv G K c k); iexact HI
  iexact Ha
theorem closeSend : iprop(recs G K ∗ bigSep Finset.univ (fun k => atPos ER (sendCell c k) 1 ∅ 0)) ⊢ (|={Set.univ}=> bigSep Finset.univ (fun k => semVal (sendCell c k) 0) : sProp 𝕄) := by
  refine (bigSep_with_persistent (Ψ := fun k : Fin 15 => iprop(|={Set.univ}=> semVal (sendCell c k) 0)) fun k _ => ?_).trans (bigSep_fupd _ _)
  iintro ⟨HI, Ha⟩
  iapply (close G K (sendCell c k))
  isplitl [HI]; · iapply (inv_send G K c k); iexact HI
  iexact Ha

/-! ## The body -/

variable (arg0 : Memref sig .tc .vmem S512x768 .bf16) (arg1 : Memref sig .tc .vmem S1024x768 .bf16)
  (arg2 : Memref sig .tc .vmem S512x256 .f32) (arg3 : Memref sig .tc .vmem S512x256 .f32) (arg4 : Memref sig .tc .vmem S256x256 .bf16)
  (arg5 : Memref sig .tc .vmem S512x768 .f32) (v0 : FVec F S512x768 .bf16) (v1 : FVec F S1024x768 .bf16)
  (v2 v3 : FVec F S512x256 .f32) (v4 : FVec F S256x256 .bf16)

/-- What the device carries into the body: its barrier, the semaphores of its copies open, the credit. -/
def talk : sProp 𝕄 :=
  iprop(barPre c ∗ bigSep Finset.univ (seed c) ∗ bigSep Finset.univ (coming c) ∗ bigSep Finset.univ (fun k => reached ER (recvCell c k) 0))
/-- Every semaphore back at zero. -/
def silent : sProp 𝕄 :=
  iprop(semVal (barCell c) 0 ∗ bigSep Finset.univ (fun k => semVal (sendCell c k) 0) ∗ bigSep Finset.univ (fun k => semVal (recvCell c k) 0))
/-- The five operands' staging buffers. -/
def staged : sProp 𝕄 :=
  iprop(memPts c fullShare arg0 v0 ∗ memPts c fullShare arg1 v1 ∗ memPts c fullShare arg2 v2 ∗ memPts c fullShare arg3 v3 ∗ memPts c fullShare arg4 v4)
/-- The two scratches at contents not chosen. -/
def scratch : sProp 𝕄 :=
  iprop((∃ f : Blocks F, ((c : Thread nD τ).loc cc0_scratch0) ↦{fullShare} f)
    ∗ ∃ f : Buf (Elt F) ((c : Thread nD τ).loc cc0_scratch1), ((c : Thread nD τ).loc cc0_scratch1) ↦{fullShare} f)

theorem acc_set : (accM : Memref sig .tc .vmem S512x768 .f32).view.set = Finset.univ := View.set_whole _

/-- What the device computes from the gathered blocks and its own operands. -/
def outcome : FVec F S512x768 .f32 := result G c (k0_pay1 v0) (k0_pay2 v2) (k0_pay3 v3) (k0_pay4 v4)

set_option maxHeartbeats 1600000 in
theorem body_wp (hwg : wgM.IsWhole) (hG : k0_pay5 v1 = loaded G c) (Q : PUnit → sProp 𝕄) :
    iprop(recs G K ∗ levAts L lv ∗ talk c ∗ scratch c ∗ staged c arg0 arg1 arg2 arg3 arg4 v0 v1 v2 v3 v4 ∗ (∃ o, memPts c fullShare arg5 o) ∗ Owes c (O₀ c))
      ⊢ iprop(((silent c ∗ scratch c ∗ staged c arg0 arg1 arg2 arg3 arg4 v0 v1 v2 v3 v4 ∗ memPts c fullShare arg5 (outcome G c v0 v2 v3 v4) ∗ Owes c 0) -∗ Q ⟨⟩)
        -∗ wp frame (wpE (defs₀ (F := F)) 𝒱₀ c none) Set.univ
            (body (F := F) arg0 arg1 arg2 arg3 arg4 arg5 wgM hwg accM cc0_scratch2 cc0_scratch3 cc0_scratch4 cc0_scratch5) Q) := by
  rw [body_ring]
  unfold talk scratch staged
  iintro ⟨#HI, #Hlev, ⟨Hbar, Hseed, Hcome, #Hreach⟩, ⟨⟨%f, Hwg⟩, ⟨%g, Hacc⟩⟩, ⟨H0, H1, H2, H3, H4⟩, Hout, HO⟩ Hk
  simp only [show ∀ k : Dev nD → Prog (TpuEff nD τ sig (Elt F) Λ₀ .tc) PUnit, (Prog.lift .deviceId >>= k) = Prog.op .deviceId k from fun _ => rfl, wp_deviceId]
  ihave Hwg := (Entails.of_eq (slots_split c f)) $$ Hwg
  icases Hwg with ⟨Hown, Hslots⟩
  ihave Hready : bigSep Finset.univ (ready c) $$ [Hslots]
  · unfold ready
    rw [bigSep_sep']
    isplitl [Hslots]
    · ihave H := (show bigSep Finset.univ (fun k : Fin 15 => slotPts fullShare c (land k c) f) ⊢ bigSep Finset.univ (fun k : Fin 15 => iprop(∃ f : Blocks F, slotPts fullShare c (land k c) f)) from
        bigSep_mono fun k _ => show slotPts fullShare c (land k c) f ⊢ iprop(∃ f : Blocks F, slotPts fullShare c (land k c) f) by iintro H; iexists f; iexact H) $$ Hslots
      iexact H
    iexact Hreach
  iapply (handshake G K c) $$ [Hbar Hready HO]
  · isplitr; · iexact HI
    isplitr; · iexact Hlev
    isplitl [Hbar]; · iexact Hbar
    isplitl [Hready]; · iexact Hready
    iexact HO
  iintro ⟨Hbat, Hfresh, HO⟩
  rw [wp_bind]
  iapply (load_wp c fullShare arg0 v0) $$ H0
  iintro H0
  rw [wp_bind]
  iapply (load_wp c fullShare arg2 v2) $$ H2
  iintro H2
  rw [wp_bind]
  iapply (load_wp c fullShare arg3 v3) $$ H3
  iintro H3
  rw [wp_bind]
  iapply (load_wp c fullShare arg4 v4) $$ H4
  iintro H4
  rw [wp_bind]
  iapply (load_wp c fullShare arg1 v1) $$ H1
  iintro H1
  rw [hG, show ring c (k0_pay1 v0) (k0_pay2 v2) (k0_pay3 v3) (k0_pay4 v4) (loaded G c) arg5
    = (ring c (k0_pay1 v0) (k0_pay2 v2) (k0_pay3 v3) (k0_pay4 v4) (loaded G c) arg5 >>= fun x => Prog.ret x) from (bind_pure _).symm, wp_bind]
  iapply (ring_wp G K c) $$ [Hfresh Hseed Hcome HO Hown Hacc Hout]
  · isplitr; · iexact HI
    isplitr; · iexact Hlev
    unfold ringPre
    isplitl [Hcome]; · iexact Hcome
    isplitl [Hfresh Hseed]
    · rw [bigSep_sep']
      isplitl [Hfresh]; · iexact Hfresh
      iexact Hseed
    isplitl [HO]; · iexact HO
    isplitl [Hown]; · iexists f; iexact Hown
    isplitl [Hacc]
    · iexists _; unfold memPts; rw [acc_set]
      iexists g; isplitr; · ipureintro; rfl
      iexact Hacc
    iexact Hout
  unfold ringPost
  iintro ⟨Hkept, Hdep, HO, Hown, ⟨%a, Hacc⟩, Hout⟩
  ihave Hdep := (Entails.of_eq (bigSep_univ_eq_bigSepL departs (by decide) (by decide) (departed G c)).symm) $$ Hdep
  ihave H := (rejoin G c) $$ [Hkept Hdep Hown]
  · isplitl [Hkept]; · iexact Hkept
    isplitl [Hdep]; · iexact Hdep
    iexact Hown
  icases H with ⟨Hwg, Hv, Hs⟩
  rw [wp_ret]
  imod (close G K (barCell c)) $$ [Hbat] with Hb
  · isplitr; · iapply (inv_bar G K c); iexact HI
    iexact Hbat
  imod (closeSend G K c) $$ [Hs] with Hs
  · isplitr; · iexact HI
    iexact Hs
  imod (closeRecv G K c) $$ [Hv] with Hv
  · isplitr; · iexact HI
    iexact Hv
  imodintro
  iapply Hk
  unfold silent memPts
  isplitl [Hb Hs Hv]
  · isplitl [Hb]; · iexact Hb
    isplitl [Hs]; · iexact Hs
    iexact Hv
  isplitl [Hwg Hacc]
  · isplitl [Hwg]; · iexists G; iexact Hwg
    icases Hacc with ⟨%g', -, Hacc⟩
    rw [acc_set]
    iexists g'; iexact Hacc
  isplitl [H0 H1 H2 H3 H4]
  · isplitl [H0]; · iexact H0
    isplitl [H1]; · iexact H1
    isplitl [H2]; · iexact H2
    isplitl [H3]; · iexact H3
    iexact H4
  isplitl [Hout]; · iexact Hout
  iexact HO

end Cert.KernelIdeal.Ring

end
-- ==== Proof.Region.lean ====
/-
# The kernel's region of @main

The proof data of the region, its body obligation from the device's run, and the region's record: what the region is
entered with, and what it leaves.
-/
module

public import proofs.«01_k».proof.Proof.Device
public import proofs.«01_k».proof.Proof.Gen.KernelIdeal.Frame
public import Idealize.ShloMosaic.Lib.Pipeline.RegionTalk
public import Idealize.ShloMosaic.Lib.Pipeline.FrameTail

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## What is gathered -/

/-- An index of the scratch, within its slot. -/
def within (i : S16x1024x768.Idx) : S1x1024x768.Idx
  | 0 => (0 : Fin 1)
  | 1 => (i 1 : Fin 1024)
  | 2 => (i 2 : Fin 768)

/-- The sixteen blocks: block `j` is what device `j`'s second operand holds. -/
def gathered : Blocks F := fun i => k0_pay5 (iblk m (i 0 : Fin 16) 1 t0_0) (within i)

theorem slot_emb (j : Fin 16) (i : S1x1024x768.Idx) (a : Fin 3) : ((slotRect j).emb i a).val = (![j.val, 0, 0] : Fin 3 → Nat) a + (i a).val := by
  show (![j.val, 0, 0] : Fin 3 → Nat) a + 1 * (i a).val = _
  rw [Nat.one_mul]
theorem slot_emb_zero (j : Fin 16) (i : S1x1024x768.Idx) : ((slotRect j).emb i 0 : Fin 16) = j := by
  have h : (i 0).val < 1 := (i 0).isLt
  exact Fin.ext ((slot_emb j i 0).trans (by show j.val + (i 0).val = j.val; omega))
theorem within_emb (j : Fin 16) (i : S1x1024x768.Idx) : within ((slotRect j).emb i) = i := by
  have h : (i 0).val < 1 := (i 0).isLt
  funext a
  fin_cases a
  · exact Fin.ext (by show 0 = (i 0).val; omega)
  · exact Fin.ext ((slot_emb j i 1).trans (by show 0 + (i 1).val = (i 1).val; omega))
  · exact Fin.ext ((slot_emb j i 2).trans (by show 0 + (i 2).val = (i 2).val; omega))

theorem loaded_gathered : k0_pay5 (iblk m c 1 t0_0) = loaded (gathered m) c := by
  funext i
  show _ = gathered m ((slotRect c).emb i)
  unfold gathered
  rw [within_emb, slot_emb_zero c i]

/-! ## The proof data -/

/-- What the device leaves in the staged output. -/
def output : Vec F S512x768 .f32 := outcome (gathered m) c (iblk m c 0 t0_0) (iblk m c 2 t0_0) (iblk m c 3 t0_0) (iblk m c 4 t0_0)

/-- What enters the region's invariant, and what it leaves, beside the scratch and the generator's register. -/
def entering : sProp 𝕄 := iprop((∃ K, recs (gathered m) K) ∗ levAts L lv ∗ talk c)

def dat : Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => output m c
  Φ t := if t.val = 0 then iprop(entering m c ∗ scratch c ∗ ∃ r, prngReg c r) else iprop(silent c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first : (dat (F := F) m c).owed t0_0.castSucc = O₀ c := by
  show (if (t0_0.castSucc : Fin (cfg0.N + 1)).val = 0 then O₀ c else 0) = O₀ c
  exact if_pos rfl
theorem owed_zero : (pdats (F := F) m 0 c).owed 0 = O₀ c := by
  show (if (0 : Fin (cfg0.N + 1)).val = 0 then O₀ c else 0) = O₀ c
  exact if_pos rfl
theorem owed_last : (pdats (F := F) m 0 c).owed (Fin.last _) = 0 := by
  show (if (Fin.last cfg0.N).val = 0 then O₀ c else 0) = 0
  rw [Fin.val_last, if_neg (by rw [show cfg0.N = 1 from N_0]; decide)]

theorem owesAt_intro (t : Fin (cfg0.N + 1)) (O : CellTallies nD τ sig Unit) (h0 : (dat (F := F) m c).owed t = O) :
    Owes (F := F) c O ⊢ ((dat m c).owesAt () t : sProp 𝕄) := by
  unfold Dat.owesAt Pipeline.owesWithin Dat.bound Owes
  rw [h0]
  iintro ⟨%W, HO⟩
  iexists W
  isplitr; · ipureintro; exact fun _ _ => Or.inl trivial
  iexact HO
theorem owesAt_elim (t : Fin (cfg0.N + 1)) (O : CellTallies nD τ sig Unit) (h0 : (dat (F := F) m c).owed t = O) :
    ((dat m c).owesAt () t : sProp 𝕄) ⊢ Owes (F := F) c O := by
  unfold Dat.owesAt Pipeline.owesWithin Owes
  rw [h0]
  iintro ⟨%W, -, HO⟩
  iexists W; iexact HO

theorem before0 (d) : (dat (F := F) m c).before 0 t0_0 d = iblk m c 0 t0_0 := by unfold Dat.before; rw [if_pos (fetch0_0 t0_0)]; rfl
theorem before1 (d) : (dat (F := F) m c).before 1 t0_0 d = iblk m c 1 t0_0 := by unfold Dat.before; rw [if_pos (fetch0_1 t0_0)]; rfl
theorem before2 (d) : (dat (F := F) m c).before 2 t0_0 d = iblk m c 2 t0_0 := by unfold Dat.before; rw [if_pos (fetch0_2 t0_0)]; rfl
theorem before3 (d) : (dat (F := F) m c).before 3 t0_0 d = iblk m c 3 t0_0 := by unfold Dat.before; rw [if_pos (fetch0_3 t0_0)]; rfl
theorem before4 (d) : (dat (F := F) m c).before 4 t0_0 d = iblk m c 4 t0_0 := by unfold Dat.before; rw [if_pos (fetch0_4 t0_0)]; rfl

theorem owns_memPts {s : Shape} {e : EltTy} (q : PosShare TreeShare) (a : Memref sig .tc .vmem s e) (v : Vec F s e) :
    (owns (c : Thread nD τ) a q v : sProp 𝕄) = memPts c q a v := rfl

set_option maxHeartbeats 2000000 in
theorem body_obligation : BodyObligation (dat (F := F) m c) defs₀ 𝒱₀ () Set.univ := fun t => by
  obtain rfl := fin_N0 t
  rw [show (defs₀ (F := F)) .tc cfg0.body (cfg0.bodyArgs t0_0 (cfg0.slots t0_0)) = bodyAt0 t0_0 from rfl, bigSep_W0, bigSep_W0]
  dsimp only
  rw [show (dat (F := F) m c).Φ t0_0.castSucc = iprop(entering m c ∗ scratch c ∗ ∃ r, prngReg c r) from rfl,
    show (dat (F := F) m c).Φ t0_0.succ = iprop(silent c ∗ scratch c ∗ ∃ r, prngReg c r) from rfl,
    show (dat (F := F) m c).after 0 t0_0 = iblk m c 0 t0_0 from rfl, show (dat (F := F) m c).after 1 t0_0 = iblk m c 1 t0_0 from rfl,
    show (dat (F := F) m c).after 2 t0_0 = iblk m c 2 t0_0 from rfl, show (dat (F := F) m c).after 3 t0_0 = iblk m c 3 t0_0 from rfl,
    show (dat (F := F) m c).after 4 t0_0 = iblk m c 4 t0_0 from rfl, show (dat (F := F) m c).after 5 t0_0 = output m c from rfl]
  simp only [before0, before1, before2, before3, before4, owns_memPts]
  unfold bodyAt0 entering
  rw [body_eq]
  iintro ⟨⟨⟨⟨%K, #HI⟩, #Hlev, Htalk⟩, Hs, Hreg⟩, HO, ⟨%d0, H0⟩, ⟨%d1, H1⟩, ⟨%d2, H2⟩, ⟨%d3, H3⟩, ⟨%d4, H4⟩, ⟨%d5, H5⟩⟩
  ihave HO := (owesAt_elim m c _ (O₀ c) (owed_first m c)) $$ HO
  iapply (body_wp (gathered m) K c (stage0_0 0) (stage0_1 0) (stage0_2 0) (stage0_3 0) (stage0_4 0) (stage0_5 0)
    (iblk m c 0 t0_0) (iblk m c 1 t0_0) (iblk m c 2 t0_0) (iblk m c 3 t0_0) (iblk m c 4 t0_0) (Memref.isWhole_whole _) (loaded_gathered m c)) $$ [Htalk Hs HO H0 H1 H2 H3 H4 H5]
  · isplitr; · iexact HI
    isplitr; · iexact Hlev
    isplitl [Htalk]; · iexact Htalk
    isplitl [Hs]; · iexact Hs
    isplitl [H0 H1 H2 H3 H4]
    · unfold staged
      isplitl [H0]; · iexact H0
      isplitl [H1]; · iexact H1
      isplitl [H2]; · iexact H2
      isplitl [H3]; · iexact H3
      iexact H4
    isplitl [H5]; · iexists _; iexact H5
    iexact HO
  unfold staged
  iintro ⟨Hsil, Hs, ⟨H0, H1, H2, H3, H4⟩, H5, HO⟩
  isplitl [Hsil Hs Hreg]
  · isplitl [Hsil]; · iexact Hsil
    isplitl [Hs]; · iexact Hs
    iexact Hreg
  isplitl [HO]; · iapply (owesAt_intro m c t0_0.succ 0 (owed_last m c)); iexact HO
  isplitl [H0]; · iexact H0
  isplitl [H1]; · iexact H1
  isplitl [H2]; · iexact H2
  isplitl [H3]; · iexact H3
  isplitl [H4]; · iexact H4
  iexact H5

end Cert.KernelIdeal.Ring

end
-- ==== Proof.Segs.lean ====
/-
# @main in segments

The host operations before the kernel, the kernel's region with its semaphores opened at the entry and closed at the
exit, and the host operation after it.
-/
module

public import proofs.«01_k».proof.Proof.Region

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (c : Dev nD)

/-! ## The semaphores of the copies -/

/-- The kernel's own semaphores: the fifteen that sends credit, and the fifteen that landings credit. -/
def osem : Fin 15 ⊕ Fin 15 → SemLoc sig
  | .inl k => .dma (sendS k)
  | .inr k => .dma (recvS k)

theorem own_facts : Pipeline.OwnSemFacts spec0 osem := by decide

theorem ownSems_eq : (Pipeline.ownSems0 osem c : sProp 𝕄)
    = iprop(bigSep Finset.univ (fun k => semVal (sendCell c k) 0) ∗ bigSep Finset.univ (fun k => semVal (recvCell c k) 0)) :=
  bigSep_univ_sum _

/-- What the launch keeps for the region: the barrier, and the copies' semaphores not yet opened. -/
def dormant : sProp 𝕄 :=
  iprop(barPre c ∗ (bigSep Finset.univ fun k => openTok ER (sendCell c k)) ∗ (bigSep Finset.univ fun k => openTok ER (recvCell c k))
    ∗ (bigSep Finset.univ fun k => iprop(dutyTok ER (recvCell (dest k c) k) 0 true ∗ dutyTok ER (sendCell c k) 0 true))
    ∗ (bigSep Finset.univ fun k => cred (tallyAt (recvCell c k) () N)))

theorem opened (G : Blocks F) (K : GSem nD τ sig → ℕ) (g : Fin 15 → GSem nD τ sig) (hg : ∀ k, recs G K ⊢ cellInv ER (rd G) (K (g k)) (g k)) :
    iprop(recs G K ∗ bigSep Finset.univ (fun k => iprop(openTok ER (g k) ∗ semVal (g k) 0)))
      ⊢ (|={Set.univ}=> bigSep Finset.univ (fun k => iprop(atPos ER (g k) 0 ∅ 0 ∗ reached ER (g k) 0)) : sProp 𝕄) := by
  refine (bigSep_with_persistent (Ψ := fun k : Fin 15 => iprop(|={Set.univ}=> (atPos ER (g k) 0 ∅ 0 ∗ reached ER (g k) 0))) fun k _ => ?_).trans (bigSep_fupd _ _)
  iintro ⟨HI, Ho, Hv⟩
  iapply (Rounds.cell_open ER (rd G) (g := g k) (Set.mem_univ (K (g k))))
  isplitl [HI]; · iapply (hg k); iexact HI
  isplitl [Ho] <;> iassumption

def Tk : sProp 𝕄 := iprop((∃ K, recs (gathered m) K) ∗ dormant c)
def Yk : sProp 𝕄 := semVal (barCell c) 0

theorem opening : iprop(Tk m c ∗ Pipeline.ownSems0 osem c ∗ levAts L lv) ⊢ (|={Set.univ}=> entering m c : sProp 𝕄) := by
  rw [ownSems_eq]
  unfold Tk dormant entering talk
  iintro ⟨⟨⟨%K, #HI⟩, Hb, Hos, Hov, Htok, Hcr⟩, ⟨Hs, Hv⟩, #Hlev⟩
  imod (opened (gathered m) K (sendCell c) (inv_send (gathered m) K c)) $$ [Hos Hs] with HS
  · isplitr; · iexact HI
    iapply bigSep_pair
    isplitl [Hos] <;> iassumption
  imod (opened (gathered m) K (recvCell c) (inv_recv (gathered m) K c)) $$ [Hov Hv] with HV
  · isplitr; · iexact HI
    iapply bigSep_pair
    isplitl [Hov] <;> iassumption
  imodintro
  ihave HV := bigSep_unpair $$ HV
  icases HV with ⟨Hav, Hrv⟩
  isplitr; · iexists K; iexact HI
  isplitr; · iexact Hlev
  isplitl [Hb]; · iexact Hb
  isplitl [Htok HS]
  · ihave H := (bigSep_pair (Φ := fun k => iprop(dutyTok ER (recvCell (dest k c) k) 0 true ∗ dutyTok ER (sendCell c k) 0 true))
      (Ψ := fun k => iprop(atPos ER (sendCell c k) 0 ∅ 0 ∗ reached ER (sendCell c k) 0))) $$ [Htok HS]
    · isplitl [Htok] <;> iassumption
    ihave H := (show _ ⊢ bigSep Finset.univ (seed c) from bigSep_mono fun k _ => show
        iprop((dutyTok ER (recvCell (dest k c) k) 0 true ∗ dutyTok ER (sendCell c k) 0 true) ∗ atPos ER (sendCell c k) 0 ∅ 0 ∗ reached ER (sendCell c k) 0) ⊢ seed c k by
      unfold seed
      iintro ⟨⟨H1, H2⟩, H3, H4⟩
      isplitl [H1]; · iexact H1
      isplitl [H2]; · iexact H2
      isplitl [H4] <;> iassumption) $$ H
    iexact H
  isplitl [Hav Hcr]
  · unfold coming
    iapply bigSep_pair
    isplitl [Hav] <;> iassumption
  iexact Hrv

/-! ## The region -/

/-- The buffers outside the region's windows. -/
abbrev rest : Finset (DevRef τ sig) := Pipeline.ucRefs τ sig \ Pipeline.arrRefs spec0

/-- The contents after the region. -/
def W' (c : Dev nD) : Valuation τ sig (Elt F) := Pipeline.afterRegion (dat m c) (V0 m c)

theorem W'_rest (b : DevRef τ sig) (hb : b ∈ rest) : W' m c b = V0 m c b := by
  obtain ⟨hu, hn⟩ := Finset.mem_sdiff.mp hb
  obtain ⟨r, -, rfl⟩ := Finset.mem_map.mp (Finset.mem_filter.mp hu).1
  exact Pipeline.afterRegion_of_not_arr (dat m c) (V0 m c) (b := r) fun w h => hn (by
    subst h
    exact Finset.mem_map_of_mem _ (Finset.mem_image_of_mem _ (Finset.mem_univ w)))

theorem owed_pos {g : GSem nD τ sig} {u : Unit} (h : 0 < O₀ c g u) : (∃ k d, g = recvCell d k) ∨ ∃ d, g = barCell d := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨k, -, hg⟩ := due_pos h
      exact .inl ⟨k, _, hg⟩
    · rw [tallyAt_apply] at h
      split at h
      · next hg => exact .inr ⟨_, hg.1⟩
      · exact absurd h (Nat.lt_irrefl 0)
  · rw [tallyAt_apply] at h
    split at h
    · next hg => exact .inr ⟨_, hg.1⟩
    · exact absurd h (Nat.lt_irrefl 0)

theorem cut_owed (t : Fin (cfg0.N + 1)) (g : GSem nD τ sig) (i : Unit) (h : 0 < (dat (F := F) m c).owed t g i) :
    i ∈ L g ∧ (0 : ℕ) < lv g i := by
  have e : (dat (F := F) m c).owed t = if t.val = 0 then O₀ c else 0 := rfl
  rw [e] at h
  split at h
  · rcases owed_pos c h with ⟨k, d, rfl⟩ | ⟨d, rfl⟩
    · exact ⟨by rw [L_tc]; exact Finset.mem_singleton_self _, by rw [lv_recv]; omega⟩
    · exact ⟨by rw [L_tc]; exact Finset.mem_singleton_self _, by rw [lv_bar]; omega⟩
  · exact absurd h (Nat.lt_irrefl 0)

theorem lv_stage (w : Fin cfg0.W) (s : Fin (cfg0.win w).nbuf) : lv ((c : Thread nD τ), .dma ((cfg0.win w).sem s)) () = 0 := by
  unfold lv
  rw [if_neg (fun h => by cases h), dif_neg]
  rintro ⟨k, h⟩
  exact own_facts.disj (.inr k) w s h.symm

theorem scoped_scratch : (Pipeline.scopedRest (Ix := Unit) (Name := ℕ) (U := UU) (Lvl := ℕ) (Val := Elt F) (Pipeline.pin (pcfgs (F := F)) adm 0).spec c : sProp 𝕄) = scratch c :=
  scopedRest0_eq (Val := Elt F) (Ix := Unit) (Name := ℕ) (U := UU) (Lvl := ℕ) c

theorem entry_in : iprop(Pipeline.scopedRest (Pipeline.pin (pcfgs (F := F)) adm 0).spec c ∗ (∃ r, prngReg c r) ∗ StableHlo.held (c.tc : Thread nD τ) ∅ (V0 m c) ∗ entering m c)
    ⊢ (pdats m 0 c).Φ 0 := by
  rw [show (pdats m 0 c).Φ 0 = iprop(entering m c ∗ scratch c ∗ ∃ r, prngReg c r) from rfl]
  iintro ⟨Hs, Hp, -, Hx⟩
  isplitl [Hx]; · iexact Hx
  isplitl [Hs]; · iapply (Entails.of_eq (scoped_scratch c)) $$ Hs
  iexact Hp

theorem exit_out : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W' m c) ∗ Pipeline.ownSems0 osem c ∗ Yk c) := by
  rw [show (pdats m 0 c).Φ (Fin.last _) = iprop(silent c ∗ scratch c ∗ ∃ r, prngReg c r) from rfl, ownSems_eq]
  unfold silent Yk StableHlo.held
  rw [bigSep_empty]
  iintro ⟨⟨Hb, Hs, Hv⟩, Hc, Hp⟩
  isplitl [Hc]; · iapply (Entails.of_eq (scoped_scratch c).symm) $$ Hc
  isplitl [Hp]; · iexact Hp
  isplitr; · iempintro
  isplitl [Hs Hv]
  · isplitl [Hs] <;> iassumption
  iexact Hb

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem own_facts
    ∅ rest (Finset.empty_subset _) launch0.toP rfl (fun c => (body_obligation m c).loose)
    (fun _ => 0) O₀ (fun c => (owed_zero m c).trans (zero_add _).symm) (owed_last m) (fun _ => rfl) (fun c w => by unfold Dat.share; split <;> rfl)
    (V0 m) (W' m) (fun c b hb => W'_rest m c b (Finset.mem_sdiff.mp hb).1)
    (Tk m) Yk (entering m) Yk (opening m) (entry_in m) (exit_out m)
    (fun c => by iintro H; imodintro; iexact H)
    (fun _ => 0)
    ⟨fun c w s => by rw [L_tc]; exact Finset.mem_singleton_self _, fun c w s => (lv_stage c w s).le, fun c t g i h => cut_owed m c t g i h⟩
    (fun _ => iprop(emp))
    (fun c w => rfl)
    (fun c w => (Pipeline.afterRegion_arr (dat m c) (V0 m c) launch0.win.arr_inj w).symm)

/-- What rides beside the buffers up to the region. -/
def before : sProp 𝕄 := iprop(Tk m c ∗ (∃ r, prngReg c r) ∗ Owes c (O₀ c))
/-- And after it. -/
def behind : sProp 𝕄 := iprop(semVal (barCell c) 0 ∗ ∃ W, owes (c : Thread nD τ) (0 : CellTallies nD τ sig Unit) W)

theorem arr_sub : Pipeline.arrRefs (τ := τ) spec0 ⊆ Pipeline.ucRefs τ sig :=
  Pipeline.arrRefs_sub_ucRefs spec0 launch0.win.arr_unscoped

theorem reg_pre : iprop(StableHlo.held (c : Thread nD τ) (Pipeline.ucRefs τ sig) (V0 m c) ∗ before m c) ⊢ (reg m).pre c := by
  show _ ⊢ iprop(StableHlo.held (c.tc : Thread nD τ) (Pipeline.arrRefs (τ := τ) spec0) (V0 m c) ∗ (∃ r, prngReg c r)
    ∗ (StableHlo.held (c.tc : Thread nD τ) rest (V0 m c) ∗ emp) ∗ Tk m c ∗ ∃ Wd, owes (c : Thread nD τ) (0 + O₀ c) Wd)
  rw [zero_add, StableHlo.held_sub_split (c.tc : Thread nD τ) arr_sub (V0 m c)]
  unfold before Owes
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post : (reg m).post c ⊢ iprop(StableHlo.held (c : Thread nD τ) (Pipeline.ucRefs τ sig) (W' m c) ∗ behind c) := by
  show iprop(StableHlo.held (c.tc : Thread nD τ) (Pipeline.arrRefs (τ := τ) spec0) (W' m c) ∗ (∃ r, prngReg c r)
    ∗ (StableHlo.held (c.tc : Thread nD τ) rest (W' m c) ∗ emp) ∗ Yk c ∗ ∃ Wd, owes (c : Thread nD τ) (0 : CellTallies nD τ sig Unit) Wd) ⊢ _
  rw [StableHlo.held_sub_split (c.tc : Thread nD τ) arr_sub (W' m c)]
  unfold behind Yk
  iintro ⟨Ha, -, ⟨Hr, -⟩, Hb, HO⟩
  isplitl [Ha Hr]
  · isplitl [Ha] <;> iassumption
  isplitl [Hb] <;> iassumption

/-! ## The segments -/

theorem within_uc {ops : List (HloOp τ sig (Elt F))} (h : ops.Forall fun op => op.bufs ⊆ StableHlo.tcRefs τ sig) :
    ∀ op ∈ ops, op.bufs ⊆ Pipeline.ucRefs τ sig := fun op hop => Pipeline.sub_ucRefs op ((List.forall_iff_forall_mem.mp h) op hop)

/-- A line of host operations from the contents `U`. -/
def line (ops : List (HloOp τ sig (Elt F))) (hs : ops.Forall fun op => op.bufs ⊆ StableHlo.tcRefs τ sig)
    (hf : ops.Forall fun op => op.fresh = ∅) (U : Dev nD → Valuation τ sig (Elt F)) (R : Dev nD → sProp 𝕄) : ℍ :=
  Pipeline.HostSeg.ofOps _ _ _ _ _ (Pipeline.ucRefs τ sig) ops (within_uc hs) (List.forall_iff_forall_mem.mp hf) U R

abbrev U₀ (c : Dev nD) : Valuation τ sig (Elt F) := fun b => m (c, b)

theorem after_host : StableHlo.after hostOps0 (U₀ m c) = V0 m c := by
  unfold V0
  rw [List.flatten_cons, List.flatten_nil, List.append_nil]

def segs : List (Pipeline.Seg (pcfgs (F := F)) adm (pdats m) () defs₀ 𝒱₀ L lv) :=
  [.host (line hostOps0 hostOps0_sub hostOps0_fresh (U₀ m) (before m)),
    .region (reg m),
    .host (line hostOps1 hostOps1_sub hostOps1_fresh (W' m) behind)]

theorem main_eq : main (F := F) c = Pipeline.Seg.run (segs m) := by
  rw [Pipeline.Seg.run_eq_chain, main_chain]
  rfl

end Cert.KernelIdeal.Ring

end
-- ==== Proof.Launch.lean ====
/-
# The launch, and the run

Ghost state is made for the barriers' cells, which are open from the start, and for the copies' cells, which stay dormant
until the region opens them. The duties' tokens go to those who pay: a barrier's to the two neighbours, a landing's to
the device that starts the copy. Then @main runs.
-/
module

public import proofs.«01_k».proof.Proof.Segs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The cells and the tokens -/

theorem osem_inj : Function.Injective osem := by decide
theorem osem_ne_bar : ∀ s, osem s ≠ .reg barS := by decide

def barEmb : Dev nD ↪ GSem nD τ sig := ⟨fun c => barCell c, fun _ _ h => congrArg (fun g : GSem nD τ sig => g.1.1) h⟩
def ownEmb : Dev nD × (Fin 15 ⊕ Fin 15) ↪ GSem nD τ sig :=
  ⟨fun p => ((p.1 : Thread nD τ), osem p.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem disjoint_cells : Disjoint barCells ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The duties of one device's cells: two on its barrier, one on each other. -/
abbrev Duty : Type := Bool ⊕ (Fin 15 ⊕ Fin 15)
abbrev dutySem : Duty → SemLoc sig
  | .inl _ => .reg barS
  | .inr s => osem s
abbrev dutyName : Duty → Bool
  | .inl b => b
  | .inr _ => true

theorem duty_inj : Function.Injective fun j : Duty => (dutySem j, dutyName j) := by
  rintro (b | s) (b' | s') h
  · exact congrArg Sum.inl (congrArg Prod.snd h)
  · exact absurd (congrArg Prod.fst h).symm (osem_ne_bar s')
  · exact absurd (congrArg Prod.fst h) (osem_ne_bar s)
  · exact congrArg Sum.inr (osem_inj (congrArg Prod.fst h))

def toks : Finset (GSem nD τ sig × ℕ × Bool) :=
  Finset.univ.map ⟨fun p : Dev nD × Duty => (((p.1 : Thread nD τ), dutySem p.2), 0, dutyName p.2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

abbrev launched : URounds (GSem nD τ sig) Bool := launchOf barCells ownCells toks

/-- The launch element: the staging cells', and the protocol's. -/
def u₀ : UU :=
  (initOf (Pipeline.cells (Pipeline.pin (pcfgs (F := F)) adm) cellOf_inj) (Pipeline.launchToks (Pipeline.pin (pcfgs (F := F)) adm) cellOf_inj), launched)

/-- The protocol's element whole, parked by device 0. -/
def parked (c : Dev nD) : sProp 𝕄 := if c = 0 then BI.own (ER launched) else iprop(emp)

theorem parked_all : bigSep Finset.univ (parked (F := F)) = BI.own (ER launched) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-! ## Tokens to those who pay -/

theorem bigSep_bool (Φ : Bool → sProp 𝕄) : bigSep Finset.univ Φ = iprop(Φ true ∗ Φ false) := by
  rw [show (Finset.univ : Finset Bool) = {true, false} from rfl, bigSep_insert (by decide), bigSep_singleton]
  rfl

/-- The tokens device `c` pays with. -/
def paid (c : Dev nD) : sProp 𝕄 :=
  iprop((dutyTok ER (barCell (left c)) 0 true ∗ dutyTok ER (barCell (right c)) 0 false)
    ∗ (bigSep Finset.univ fun k => dutyTok ER (recvCell (dest k c) k) 0 true) ∗ bigSep Finset.univ fun k => dutyTok ER (sendCell c k) 0 true)

theorem paid_all : bigSep toks (fun x => (dutyTok ER x.1 x.2.1 x.2.2 : sProp 𝕄)) ⊢ bigSep Finset.univ paid := by
  have e : bigSep toks (fun x => (dutyTok ER x.1 x.2.1 x.2.2 : sProp 𝕄)) = bigSep Finset.univ fun c : Dev nD =>
      iprop((dutyTok ER (barCell c) 0 true ∗ dutyTok ER (barCell c) 0 false)
        ∗ (bigSep Finset.univ fun k : Fin 15 => dutyTok ER (sendCell c k) 0 true) ∗ bigSep Finset.univ fun k : Fin 15 => dutyTok ER (recvCell c k) 0 true) := by
    unfold toks
    rw [bigSep_map, bigSep_univ_prod]
    exact bigSep_congr fun c _ => by
      rw [bigSep_univ_sum, bigSep_univ_sum, bigSep_bool]
      rfl
  have l : bigSep Finset.univ (fun c : Dev nD => (dutyTok ER (barCell c) 0 true : sProp 𝕄)) = bigSep Finset.univ fun c => dutyTok ER (barCell (left c)) 0 true :=
    bigSep_univ_equiv (around 1) _
  have r : bigSep Finset.univ (fun c : Dev nD => (dutyTok ER (barCell c) 0 false : sProp 𝕄)) = bigSep Finset.univ fun c => dutyTok ER (barCell (right c)) 0 false :=
    bigSep_univ_equiv (around 0) _
  have t : bigSep Finset.univ (fun c : Dev nD => bigSep Finset.univ fun k : Fin 15 => (dutyTok ER (recvCell c k) 0 true : sProp 𝕄))
      = bigSep Finset.univ fun c => bigSep Finset.univ fun k => dutyTok ER (recvCell (dest k c) k) 0 true := by
    rw [bigSep_univ_comm, bigSep_univ_comm (fun (c : Dev nD) k => (dutyTok ER (recvCell (dest k c) k) 0 true : sProp 𝕄))]
    exact bigSep_congr fun k _ => bigSep_univ_equiv (around k) _
  rw [e]
  unfold paid
  iintro H
  ihave H := bigSep_unpair $$ H; icases H with ⟨Hb, H⟩
  ihave Hb := bigSep_unpair $$ Hb; icases Hb with ⟨Hl, Hr⟩
  ihave H := bigSep_unpair $$ H; icases H with ⟨Hs, Hv⟩
  iapply bigSep_pair; isplitl [Hl Hr]
  · iapply bigSep_pair; isplitl [Hl]
    · iapply (Entails.of_eq l) $$ Hl
    · iapply (Entails.of_eq r) $$ Hr
  iapply bigSep_pair; isplitl [Hv]
  · iapply (Entails.of_eq t) $$ Hv
  · iexact Hs

/-! ## The launch credit -/

/-- What device `c` may wait for: two units on its barrier, and a slot's worth on each receive semaphore. -/
def awaited (c : Dev nD) : CellTallies nD τ sig Unit := tallyAt (barCell c) () 2 + ∑ k, tallyAt (recvCell c k) () N

theorem owed_sum : (∑ d, O₀ d) = ∑ d, awaited d := by
  have hr : (∑ d : Dev nD, tallyAt (barCell (right d)) () 1) = ∑ d : Dev nD, (tallyAt (barCell d) () 1 : CellTallies nD τ sig Unit) :=
    Equiv.sum_comp (around 0) fun d => tallyAt (barCell d) () 1
  have hl : (∑ d : Dev nD, tallyAt (barCell (left d)) () 1) = ∑ d : Dev nD, (tallyAt (barCell d) () 1 : CellTallies nD τ sig Unit) :=
    Equiv.sum_comp (around 1) fun d => tallyAt (barCell d) () 1
  have hd : (∑ d : Dev nD, due 0 d) = ∑ d : Dev nD, ∑ k, (tallyAt (recvCell d k) () N : CellTallies nD τ sig Unit) := by
    have e (d : Dev nD) : due 0 d = ∑ k, (tallyAt (recvCell (dest k d) k) () N : CellTallies nD τ sig Unit) := by
      unfold due; rw [Finset.filter_true_of_mem fun k _ => Nat.zero_le _]
    rw [Finset.sum_congr rfl fun d _ => e d, Finset.sum_comm, Finset.sum_comm (f := fun (d : Dev nD) k => (tallyAt (recvCell d k) () N : CellTallies nD τ sig Unit))]
    exact Finset.sum_congr rfl fun k _ => Equiv.sum_comp (around k) fun d => tallyAt (recvCell d k) () N
  have h2 (d : Dev nD) : (tallyAt (barCell d) () 2 : CellTallies nD τ sig Unit) = tallyAt (barCell d) () 1 + tallyAt (barCell d) () 1 := (tallyAt_add _ _ 1 1).symm
  unfold O₀ awaited
  rw [Finset.sum_add_distrib, Finset.sum_add_distrib, hr, hl, hd, Finset.sum_add_distrib, Finset.sum_congr (f := fun d : Dev nD => tallyAt (barCell d) () 2) rfl fun d _ => h2 d,
    Finset.sum_add_distrib, add_assoc, add_comm]

theorem awaited_own (d : Dev nD) (g : GSem nD τ sig) (h : awaited d g ≠ 0) : g.1 = (d.tc : Thread nD τ) := by
  by_contra hn
  refine h (Finsupp.ext fun u => ?_)
  unfold awaited
  rw [Pi.add_apply, Finsupp.add_apply, tallyAt_apply, if_neg fun e => hn (congrArg Prod.fst e.1), Finset.sum_apply, Finsupp.finset_sum_apply,
    Finset.sum_eq_zero fun k _ => by rw [tallyAt_apply, if_neg fun e => hn (congrArg Prod.fst e.1)], Nat.add_zero]
  rfl

theorem credits : (Pipeline.launchCred O₀ c : sProp 𝕄)
    ⊢ iprop(cred (tallyAt (barCell c) () 2) ∗ bigSep Finset.univ fun k => cred (tallyAt (recvCell c k) () N)) := by
  rw [Pipeline.launchCred_of_sum _ _ owed_sum awaited_own c]
  unfold awaited
  rw [BI.Entails.antisymm (cred_add _ _).1 (cred_add _ _).2, Pipeline.cred_finsetSum]

/-! ## From the launch to the first line -/

/-- What every device may look up. -/
def records (K : GSem nD τ sig → ℕ) : sProp 𝕄 := iprop(recs (gathered m) K ∗ bigSep Finset.univ fun d : Dev nD => reached ER (barCell d) 0)

instance records_persistent (K : GSem nD τ sig → ℕ) : BI.Persistent (records m K) := by unfold records; infer_instance

theorem reached_bar (d : Dev nD) : (bigSep Finset.univ fun d : Dev nD => (reached ER (barCell d) 0 : sProp 𝕄)) ⊢ reached ER (barCell d) 0 :=
  bigSep_elim (Finset.mem_univ d)

/-- The ghost state that stays with device `c`. -/
def own' (c : Dev nD) : sProp 𝕄 :=
  iprop(atPos ER (barCell c) 0 ∅ 0 ∗ ((bigSep Finset.univ fun k => openTok ER (sendCell c k)) ∗ bigSep Finset.univ fun k => openTok ER (recvCell c k)) ∗ paid c)

/-- The rest of what device `c` starts with. -/
def bundle (c : Dev nD) : sProp 𝕄 :=
  iprop(StableHlo.held (c : Thread nD τ) (Pipeline.ucRefs τ sig) (U₀ m c)
    ∗ (cred (tallyAt (barCell c) () 2) ∗ bigSep Finset.univ fun k => cred (tallyAt (recvCell c k) () N))
    ∗ owes (c : Thread nD τ) (O₀ c) ∅ ∗ ∃ r, prngReg c r)

abbrev T₀ (c : Dev nD) : sProp 𝕄 := iprop(StableHlo.held (c : Thread nD τ) (Pipeline.ucRefs τ sig) (U₀ m c) ∗ before m c)

theorem T₀_intro (K : GSem nD τ sig → ℕ) : iprop(records m K ∗ (own' c ∗ bundle m c)) ⊢ T₀ m c := by
  unfold records own' bundle T₀ before Tk dormant barPre paid Owes
  iintro ⟨⟨#HI, #HR⟩, ⟨Hat, ⟨Hos, Hov⟩, ⟨Hl, Hr⟩, Hv, Hs⟩, Hh, ⟨H2, HN⟩, HO, Hp⟩
  isplitl [Hh]; · iexact Hh
  isplitr [HO Hp]
  · isplitr; · iexists K; iexact HI
    isplitl [Hat H2 Hl Hr]
    · isplitl [Hat]; · iexact Hat
      isplitl [H2]; · iexact H2
      isplitl [Hl]; · iexact Hl
      isplitl [Hr]; · iexact Hr
      isplitr
      · iapply (reached_bar (left c)); iexact HR
      · iapply (reached_bar (right c)); iexact HR
    isplitl [Hos]; · iexact Hos
    isplitl [Hov]; · iexact Hov
    isplitl [Hv Hs]
    · iapply bigSep_pair
      isplitl [Hv] <;> iassumption
    iexact HN
  isplitl [Hp]; · iexact Hp
  iexists ∅; iexact HO

theorem unscopedSems_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem by_cells (Φ : GSem nD τ sig → sProp 𝕄) : bigSep ownCells Φ
    = bigSep Finset.univ fun c : Dev nD => iprop((bigSep Finset.univ fun k => Φ (sendCell c k)) ∗ bigSep Finset.univ fun k => Φ (recvCell c k)) := by
  rw [bigSep_map, bigSep_univ_prod]
  exact bigSep_congr fun c _ => bigSep_univ_sum _

theorem recs_intro (K : GSem nD τ sig → ℕ) : (bigSep (barCells ∪ ownCells) fun g => (cellInv ER (rd (gathered m)) (K g) g : sProp 𝕄)) ⊢ recs (gathered m) K := by
  rw [bigSep_union disjoint_cells, bigSep_map, by_cells]
  unfold recs
  rw [bigSep_univ_prod, bigSep_univ_prod]
  exact sep_mono_right bigSep_unpair

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(bundle m c ∗ (semVal (barCell c) 0 ∗ parked c)) : sProp 𝕄) := by
    rw [show unscopedBufs c (fun b => m ((c : Thread nD τ).loc b)) = StableHlo.held (c : Thread nD τ) (Pipeline.ucRefs τ sig) (U₀ m c) from
      Pipeline.unscopedBufs_held c (U₀ m c), unscopedSems_eq]
    unfold bundle
    iintro ⟨Hh, Hus, HO, Hcr, Hp, HG⟩
    ihave Hc := (credits (F := F) c) $$ Hcr
    isplitr [Hus HG]
    · isplitl [Hh]; · iexact Hh
      isplitl [Hc]; · iexact Hc
      isplitl [HO]; · iexact HO
      iexists (ρ c); iexact Hp
    isplitl [Hus] <;> iassumption
  iintro ⟨H, -⟩
  ihave H := (show _ ⊢ (bigSep Finset.univ fun c : Dev nD => iprop(bundle m c ∗ (semVal (barCell c) 0 ∗ parked c)) : sProp 𝕄) from
    bigSep_mono fun c _ => hcore c) $$ H
  ihave H := bigSep_unpair $$ H; icases H with ⟨HB, H⟩
  ihave H := bigSep_unpair $$ H; icases H with ⟨Hv, HG⟩
  ihave HG := (Entails.of_eq (parked_all (F := F))) $$ HG
  imod (Rounds.fund_launch ER (rd (gathered m)) disjoint_cells (fun g _ h => h) toks) $$ [Hv HG] with ⟨%K, -, #Hinv, #Hr, Hat, Hopen, Htok⟩
  · isplitl [Hv]
    · iapply (show (bigSep Finset.univ fun c : Dev nD => (semVal (barCell c) 0 : sProp 𝕄)) ⊢ bigSep barCells fun g => semVal g 0 from
        Entails.of_eq (bigSep_map (s := Finset.univ) barEmb (Φ := fun g : GSem nD τ sig => (semVal g 0 : sProp 𝕄))).symm) $$ Hv
    · iexact HG
  imodintro
  iapply (bigSep_with_persistent (R := records m K) (Φ := fun c => iprop(own' c ∗ bundle m c)) fun c _ => T₀_intro m c K)
  isplitr
  · unfold records
    isplitr; · iapply (recs_intro m K); iexact Hinv
    iapply (show (bigSep barCells fun g => (reached ER g 0 : sProp 𝕄)) ⊢ bigSep Finset.univ fun c : Dev nD => reached ER (barCell c) 0 from
      Entails.of_eq (bigSep_map barEmb)); iexact Hr
  iapply bigSep_pair
  isplitr [HB]
  · unfold own'
    iapply bigSep_pair; isplitl [Hat]
    · iapply (show (bigSep barCells fun g => (atPos ER g 0 ∅ 0 : sProp 𝕄)) ⊢ bigSep Finset.univ fun c : Dev nD => atPos ER (barCell c) 0 ∅ 0 from
        Entails.of_eq (bigSep_map barEmb)) $$ Hat
    iapply bigSep_pair; isplitl [Hopen]
    · iapply (Entails.of_eq (by_cells (fun g => (openTok ER g : sProp 𝕄)))) $$ Hopen
    iapply (paid_all (F := F)) $$ Htok
  · iexact HB

/-! ## The run -/

/-- The contents at the end. -/
abbrev end' (c : Dev nD) : Valuation τ sig (Elt F) := StableHlo.after hostOps1 (W' m c)
abbrev Tₙ (c : Dev nD) : sProp 𝕄 := iprop(StableHlo.held (c : Thread nD τ) (Pipeline.ucRefs τ sig) (end' m c) ∗ semVal (barCell c) 0)

theorem unscoped_bar : ∀ sm : SemLoc sig, sm.isScoped .tc = false → sm = .reg barS := by decide

theorem read_bufs (s : Phys nD τ sig (Elt F)) : iprop(Tₙ m c ∗ SI s) ⊢ (⌜∀ b ∈ Pipeline.ucRefs τ sig, s.mem.mem (c, b) = end' m c b⌝ : sProp 𝕄) := by
  unfold Tₙ StableHlo.held
  iintro ⟨⟨Hh, -⟩, HS⟩
  iapply (SI_pointsTo_bufs_agree (qs := fun _ => fullShare) (F := end' m c) (Pipeline.ucRefs τ sig))
  isplitl [HS] <;> iassumption

theorem read_bar (s : Phys nD τ sig (Elt F)) : iprop(Tₙ m c ∗ SI s) ⊢ (⌜s.mem.sem (barCell c) = 0⌝ : sProp 𝕄) := by
  iintro ⟨⟨-, Hb⟩, HS⟩
  iapply SI_read
  isplitl [HS] <;> iassumption

set_option backward.isDefEq.respectTransparency.types false in
theorem run_all : θ_run defs (onTc (τ := τ) (main (F := F))) (⟨m, fun _ => 0, ρ⟩ : MemSt nD τ sig (Elt F))
    (fun r => (∀ c : Dev nD, ∀ b ∈ Pipeline.ucRefs τ sig, r.2.mem (c, b) = end' m c b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => ?_, fun c => reg_post m c, fun c => ?_⟩
      · show iprop(StableHlo.held (c : Thread nD τ) (Pipeline.ucRefs τ sig) (StableHlo.after hostOps0 (U₀ m c)) ∗ before m c) ⊢ _
        rw [after_host]; exact reg_pre m c
      · show iprop(StableHlo.held (c : Thread nD τ) (Pipeline.ucRefs τ sig) (end' m c) ∗ behind c)
          ⊢ iprop(Tₙ m c ∗ ∃ W, owes (c : Thread nD τ) (0 : CellTallies nD τ sig Unit) W)
        unfold behind
        iintro ⟨Hh, Hb, HO⟩
        isplitr [HO]
        · isplitl [Hh] <;> iassumption
        · iexact HO)
    (hinit := init m ρ)
    (QY := fun c s => (∀ b ∈ Pipeline.ucRefs τ sig, s.mem (c, b) = end' m c b) ∧ s.sem (barCell c) = 0)
    (hfin := fun c s' => by
      refine Laws.pure_elim _ (read_bufs m c s') fun h => Laws.pure_elim _ (read_bar m c s') fun hb => ?_
      iintro ⟨-, HS⟩
      imodintro
      isplitr; · ipureintro; exact ⟨h, hb⟩
      iexact HS)
    (hQ := fun s h hs => ⟨fun c => (h c).1, sem_eq_zero hs fun c sm hsm => by
      obtain rfl := unscoped_bar sm hsm
      exact (h c).2⟩)

end Cert.KernelIdeal.Ring

end
-- ==== Proof.Frames.lean ====
/-
# The arguments and the result at the end

The arguments are as at the start, and the result is the region's output reshaped.
-/
module

public import proofs.«01_k».proof.Proof.Launch
public import proofs.«01_k».proof.Defs
public import proofs.«01_k».proof.Proof.Gen.Kernel

@[expose] public section

noncomputable section

namespace Cert.KernelIdeal.Ring

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg) (c : Dev nD)

/-- A buffer that is neither a window's array nor the result ends as the region found it. -/
theorem end_other (b : Ref sig .tc) (h : b ≠ main_v37) (ha : ∀ w, b ≠ Pipeline.arrRef spec0 w) : end' m c b = V m c b := by
  unfold end' hostOps1
  rw [StableHlo.after_cons, StableHlo.after_nil, StableHlo.reshape_result_ne (h := h)]
  exact Pipeline.afterRegion_of_not_arr (dat m c) (V0 m c) ha

theorem end_arg0 : end' m c main_arg0 = m ((c : Thread nD τ).loc main_arg0) := (end_other m c _ (by decide) (by decide)).trans (V_main_arg0 m c)
theorem end_arg1 : end' m c main_arg1 = m ((c : Thread nD τ).loc main_arg1) := (end_other m c _ (by decide) (by decide)).trans (V_main_arg1 m c)
theorem end_arg2 : end' m c main_arg2 = m ((c : Thread nD τ).loc main_arg2) := (end_other m c _ (by decide) (by decide)).trans (V_main_arg2 m c)
theorem end_arg3 : end' m c main_arg3 = m ((c : Thread nD τ).loc main_arg3) := (end_other m c _ (by decide) (by decide)).trans (V_main_arg3 m c)
theorem end_arg4 : end' m c main_arg4 = m ((c : Thread nD τ).loc main_arg4) := (end_other m c _ (by decide) (by decide)).trans (V_main_arg4 m c)

theorem run_main : θ_run defs (onTc (τ := τ) (main (F := F))) (⟨m, fun _ => 0, ρ⟩ : MemSt nD τ sig (Elt F))
    (fun r => (∀ c : Dev nD, r.2.mem ((c : Thread nD τ).loc main_v37) = end' m c main_v37
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun _ h => ⟨fun c =>
    ⟨h.1 c _ (Pipeline.devRef_mem_ucRefs rfl),
      (h.1 c _ (Pipeline.devRef_mem_ucRefs rfl)).trans (end_arg0 m c),
      (h.1 c _ (Pipeline.devRef_mem_ucRefs rfl)).trans (end_arg1 m c),
      (h.1 c _ (Pipeline.devRef_mem_ucRefs rfl)).trans (end_arg2 m c),
      (h.1 c _ (Pipeline.devRef_mem_ucRefs rfl)).trans (end_arg3 m c),
      (h.1 c _ (Pipeline.devRef_mem_ucRefs rfl)).trans (end_arg4 m c)⟩, h.2⟩) (run_all m ρ)

end Cert.KernelIdeal.Ring

namespace Cert.Proof

open Idealize.ShloMosaic Idealize.SL.Sem

set_option maxHeartbeats 20000000 in
set_option smartUnfolding false in
/-- The two programs are one text under two names, so a run of the one is a run of the other. -/
theorem of_ideal {s : MemSt Cert.Kernel.nD Cert.Kernel.τ Cert.Kernel.sig (Elt Bits)}
    {Q : PUnit × MemSt Cert.Kernel.nD Cert.Kernel.τ Cert.Kernel.sig (Elt Bits) → Prop}
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := h

theorem frame_kernel : Cert.quiescent_Kernel := fun m ρ _ =>
  of_ideal ((θ_run Cert.KernelIdeal.defs _ _).mono (fun _ h => And.intro (fun c => (h.1 c).2) h.2) (Cert.KernelIdeal.Ring.run_main (F := Bits) m ρ))

theorem frame_ideal : Cert.quiescent_KernelIdeal := fun m ρ _ =>
  (θ_run Cert.KernelIdeal.defs _ _).mono (fun _ h => ⟨fun c => (h.1 c).2, h.2⟩) (Cert.KernelIdeal.Ring.run_main (F := Ideal) m ρ)

end Cert.Proof

end
-- ==== Proof.Attend.lean ====
/-
# One head's attention, in scalars

What one head computes from one batch row's input rows and its own columns of the three projections: queries and keys
turned by the angles of their positions, the scaled scores, each row of them shifted by its maximum, exponentiated and
divided by its sum, and the values weighted by these. Over the extended reals, with no mention of either program.
-/
module

public import Idealize.ShloMosaic.Lib.Pointwise

@[expose] public section

noncomputable section

namespace Cert.Attend

open Idealize.ShloMosaic

/-- 256 positions by 64 coordinates. -/
abbrev Rows : Type := Fin 256 → Fin 64 → EReal

/-- The scaled score of a query against a key. -/
def score (q k : Rows) (i j : Fin 256) : EReal := (∑ d, q i d * k j d) * Ideal.ofBits .f32 0x3E000000#32

/-- The greatest of a row of scores. -/
def top (s : Fin 256 → EReal) : EReal := Finset.univ.fold max (Ideal.ofBits .f32 0xFF800000#32) s

/-- A row of scores shifted by its greatest, exponentiated and divided by its sum. -/
def weight (s : Fin 256 → EReal) (j : Fin 256) : EReal :=
  Ideal.div (Ideal.exp (s j - top s)) (∑ j', Ideal.exp (s j' - top s))

/-- The weighted values. -/
def attend (q k v : Rows) : Rows := fun i d => ∑ j, weight (score q k i) j * v j d

/-- The angle of a position in a pair of coordinates. -/
def angle (i : Fin 256) (p : Fin 32) : EReal :=
  (FloatOps.sitofp .f32 (BitVec.ofNat 32 i.val) : Ideal .f32) *
    Ideal.div 1 (Ideal.pow (Ideal.ofBits .f32 0x461C4000#32)
      (Ideal.div (FloatOps.sitofp .f32 (IntOp.addi 0#32 (IntOp.muli 2#32 (BitVec.ofNat 32 p.val))) : Ideal .f32) (Ideal.ofBits .f32 0x42800000#32)))

/-- The pair a coordinate belongs to. -/
def pairOf (d : Fin 64) : Fin 32 := ⟨d.val / 2, by omega⟩

/-- The two coordinates of each pair exchanged, the one that comes first negated. -/
def swap (t : Fin 64 → EReal) (d : Fin 64) : EReal :=
  if d.val % 2 < 1 then -t ⟨d.val / 2 * 2 + 1, by omega⟩ else t ⟨d.val / 2 * 2, by omega⟩

/-- Each pair of coordinates turned by its angle. -/
def turn (t : Rows) : Rows := fun i d => t i d * Ideal.cos (angle i (pairOf d)) + swap (t i) d * Ideal.sin (angle i (pairOf d))

/-- Input rows against a head's columns of a projection. -/
def cols (x : Fin 256 → Fin 768 → EReal) (w : Fin 768 → Fin 64 → EReal) : Rows := fun i d => ∑ e, x i e * w e d

/-- The head. -/
def head (x : Fin 256 → Fin 768 → EReal) (wq wk wv : Fin 768 → Fin 64 → EReal) : Rows :=
  attend (turn (cols x wq)) (turn (cols x wk)) (cols x wv)

end Cert.Attend

end
-- ==== Proof.ChunkValue.lean ====
/-
# What one weight block contributes, at an index

At row `256 b + i` and column `n`, a block's contribution is its four heads' outputs for batch row `b` at position `i`,
all 256 coordinates of them, against column `n` of the block's rows of the output projection. The tables and the
rotation enter by what they hold.
-/
module

public import proofs.«01_k».proof.Proof.Chunk
public import proofs.«01_k».proof.Proof.Attend

@[expose] public section

set_option maxRecDepth 16384

noncomputable section

namespace Cert.KernelIdeal.Ring

open Cert.KernelIdeal Cert.KernelIdeal.Gen
open Idealize.ShloMosaic Idealize.SL.Sem

/-- The row of batch row `b`, position `i`. -/
abbrev rowAt (b : Fin 2) (i : Fin 256) : Fin 512 := ⟨b.val * 256 + i.val, by omega⟩
/-- The column of head `h`, coordinate `d`. -/
abbrev colAt (h : Fin 4) (d : Fin 64) : Fin 256 := ⟨h.val * 64 + d.val, by omega⟩

/-- What the tables hold: each head's coordinates at each batch row's positions. -/
structure Tables (cos sin : FVec Ideal S512x256 .f32) : Prop where
  cos : ∀ b i h d, cos (ix2 (rowAt b i) (colAt h d)) = Ideal.cos (Attend.angle i (Attend.pairOf d))
  sin : ∀ b i h d, sin (ix2 (rowAt b i) (colAt h d)) = Ideal.sin (Attend.angle i (Attend.pairOf d))

/-- What the rotation holds: in each even column a -1 just below the diagonal, in each odd one a 1 just above it. -/
def IsRotation (rot : FVec Ideal S256x256 .bf16) : Prop :=
  ∀ k c : Fin 256, rot (ix2 k c) = if c.val % 2 = 0 then (if k.val = c.val + 1 then -1 else 0) else (if k.val + 1 = c.val then 1 else 0)

theorem head_apply (q k v : FVec Ideal S256x64 .bf16) (i : Fin 256) (d : Fin 64) :
    head q k v (ix2 i d) = Attend.attend (fun i d => q (ix2 i d)) (fun i d => k (ix2 i d)) (fun i d => v (ix2 i d)) i d := by
  pointwise [head, normalise, expShift, scores]
  rfl

/-- One head of an array of heads, by batch row and head. -/
abbrev rowsOf (t : FVec Ideal S512x256 .bf16) (b : Fin 2) (h : Fin 4) : Attend.Rows := fun i d => t (ix2 (rowAt b i) (colAt h d))

theorem slice_apply (o : Fin 2 → Nat) (hs : S512x256.Slices o S256x64) (t : FVec Ideal S512x256 .bf16) (b : Fin 2) (h : Fin 4)
    (h0 : o 0 = b.val * 256) (h1 : o 1 = h.val * 64) (i : Fin 256) (d : Fin 64) :
    extractStridedSlice S256x64 o t hs (ix2 i d) = rowsOf t b h i d := by
  refine congrArg t (funext fun a => ?_)
  match a with
  | ⟨0, _⟩ => exact Fin.ext (congrArg (· + i.val) h0)
  | ⟨1, _⟩ => exact Fin.ext (congrArg (· + d.val) h1)

theorem headAt_apply (o : Fin 2 → Nat) (hs : S512x256.Slices o S256x64) (q k v : FVec Ideal S512x256 .bf16) (b : Fin 2) (h : Fin 4)
    (h0 : o 0 = b.val * 256) (h1 : o 1 = h.val * 64) (i i' : Fin 256) (d d' : Fin 64) (hi : i'.val = i.val) (hd : d'.val = d.val) :
    headAt o hs q k v (ix2 i' d') = Attend.attend (rowsOf q b h) (rowsOf k b h) (rowsOf v b h) i d := by
  obtain rfl : i' = i := Fin.ext hi
  obtain rfl : d' = d := Fin.ext hd
  unfold headAt
  rw [head_apply]
  simp only [slice_apply o hs _ b h h0 h1]

set_option maxHeartbeats 1000000 in
theorem context_apply (q k v : FVec Ideal S512x256 .bf16) (b : Fin 2) (i : Fin 256) (h : Fin 4) (d : Fin 64) :
    context q k v (ix2 (rowAt b i) (colAt h d)) = Attend.attend (rowsOf q b h) (rowsOf k b h) (rowsOf v b h) i d := by
  have hi := i.isLt
  have hd := d.isLt
  pointwise [context]
  have hb := b.isLt
  have hh := h.isLt
  split_ifs <;> refine headAt_apply _ _ q k v b h ?_ ?_ _ _ _ _ ?_ ?_ <;>
    simp only [Matrix.cons_val_zero, Matrix.cons_val_one] <;> omega

/-- A coordinate of the rotated rows: the other coordinate of its pair, negated if that is the second. -/
theorem rotated (rot : FVec Ideal S256x256 .bf16) (hrot : IsRotation rot) (t : Fin 256 → EReal) (h : Fin 4) (d : Fin 64) :
    ∑ k, t k * rot (ix2 k (colAt h d)) = Attend.swap (fun d => t (colAt h d)) d := by
  have hd := d.isLt
  have hh := h.isLt
  unfold Attend.swap
  simp only [hrot _ _]
  by_cases he : d.val % 2 < 1
  · have he' : (h.val * 64 + d.val) % 2 = 0 := by omega
    rw [if_pos he, Finset.sum_eq_single (⟨h.val * 64 + (d.val / 2 * 2 + 1), by omega⟩ : Fin 256)]
    · rw [if_pos he', if_pos (by show h.val * 64 + (d.val / 2 * 2 + 1) = h.val * 64 + d.val + 1; omega), mul_neg, mul_one]
    · intro k _ hk
      rw [if_pos he', if_neg (fun h' => hk (Fin.ext (by show k.val = _; rw [h']; show h.val * 64 + d.val + 1 = h.val * 64 + (d.val / 2 * 2 + 1); omega))), mul_zero]
    · exact fun h => absurd (Finset.mem_univ _) h
  · have he' : ¬ (h.val * 64 + d.val) % 2 = 0 := by omega
    rw [if_neg he, Finset.sum_eq_single (⟨h.val * 64 + d.val / 2 * 2, by omega⟩ : Fin 256)]
    · rw [if_neg he', if_pos (by show h.val * 64 + d.val / 2 * 2 + 1 = h.val * 64 + d.val; omega), mul_one]
    · intro k _ hk
      rw [if_neg he', if_neg (fun h' => hk (Fin.ext (by show k.val = h.val * 64 + d.val / 2 * 2; have h'' : k.val + 1 = h.val * 64 + d.val := h'; omega))), mul_zero]
    · exact fun h => absurd (Finset.mem_univ _) h

theorem rope_apply (cos sin : FVec Ideal S512x256 .f32) (htab : Tables cos sin) (rot : FVec Ideal S256x256 .bf16) (hrot : IsRotation rot)
    (t : FVec Ideal S512x256 .f32) (b : Fin 2) (i : Fin 256) (h : Fin 4) (d : Fin 64) :
    rope cos sin rot t (ix2 (rowAt b i) (colAt h d)) = Attend.turn (fun i d => t (ix2 (rowAt b i) (colAt h d))) i d := by
  pointwise [rope]
  rw [htab.cos, htab.sin, rotated rot hrot (fun k => t (ix2 (rowAt b i) k))]
  rfl

/-- The columns of a block that hold head `h` of the projection that begins at column `o`. -/
abbrev headCols (w : FVec Ideal S1024x768 .bf16) (o : Nat) (ho : o ≤ 512) (h : Fin 4) : Fin 768 → Fin 64 → EReal :=
  fun e d => w (ix2 ⟨e.val, by omega⟩ ⟨o + (h.val * 64 + d.val), by omega⟩)

theorem projQ_apply (x : FVec Ideal S512x768 .bf16) (w : FVec Ideal S1024x768 .bf16) (b : Fin 2) (i : Fin 256) (h : Fin 4) (d : Fin 64) :
    extractStridedSlice S512x256 ![0, 0] (proj x w) slices_S512x768_o0_0_S512x256 (ix2 (rowAt b i) (colAt h d))
      = Attend.cols (fun i e => x (ix2 (rowAt b i) e)) (headCols w 0 (by decide) h) i d := by
  pointwise [proj]
  exact Finset.sum_congr rfl fun e _ => congrArg (_ * ·) (congrArg (fun c => w (ix2 _ c)) (Fin.ext (Nat.zero_add _).symm))

theorem projK_apply (x : FVec Ideal S512x768 .bf16) (w : FVec Ideal S1024x768 .bf16) (b : Fin 2) (i : Fin 256) (h : Fin 4) (d : Fin 64) :
    extractStridedSlice S512x256 ![0, 256] (proj x w) slices_S512x768_o0_256_S512x256 (ix2 (rowAt b i) (colAt h d))
      = Attend.cols (fun i e => x (ix2 (rowAt b i) e)) (headCols w 256 (by decide) h) i d := by
  pointwise [proj]
  rfl

theorem projV_apply (x : FVec Ideal S512x768 .bf16) (w : FVec Ideal S1024x768 .bf16) (b : Fin 2) (i : Fin 256) (h : Fin 4) (d : Fin 64) :
    extractStridedSlice S512x256 ![0, 512] (proj x w) slices_S512x768_o0_512_S512x256 (ix2 (rowAt b i) (colAt h d))
      = Attend.cols (fun i e => x (ix2 (rowAt b i) e)) (headCols w 512 (by decide) h) i d := by
  pointwise [proj]
  rfl

/-- Head `h` of a block, for batch row `b`. -/
def headOf (x : FVec Ideal S512x768 .bf16) (w : FVec Ideal S1024x768 .bf16) (b : Fin 2) (h : Fin 4) : Attend.Rows :=
  Attend.head (fun i e => x (ix2 (rowAt b i) e)) (headCols w 0 (by decide) h) (headCols w 256 (by decide) h) (headCols w 512 (by decide) h)

/-- A block's contribution at an index. -/
theorem contrib_apply (x : FVec Ideal S512x768 .bf16) (cos sin : FVec Ideal S512x256 .f32) (htab : Tables cos sin) (rot : FVec Ideal S256x256 .bf16)
    (hrot : IsRotation rot) (w : FVec Ideal S1024x768 .bf16) (b : Fin 2) (i : Fin 256) (n : Fin 768) :
    contrib x cos sin rot w (ix2 (rowAt b i) n)
      = ∑ k : Fin 256, headOf x w b ⟨k.val / 64, by omega⟩ i ⟨k.val % 64, by omega⟩ * w (ix2 ⟨768 + k.val, by omega⟩ n) := by
  pointwise [contrib]
  refine Finset.sum_congr rfl fun k _ => congrArg (· * _) ?_
  obtain ⟨h, d, rfl⟩ : ∃ (h : Fin 4) (d : Fin 64), k = colAt h d :=
    ⟨⟨k.val / 64, by omega⟩, ⟨k.val % 64, by omega⟩, Fin.ext (by show k.val = k.val / 64 * 64 + k.val % 64; omega)⟩
  have e1 : (⟨(colAt h d).val / 64, by omega⟩ : Fin 4) = h := Fin.ext (by show (h.val * 64 + d.val) / 64 = h.val; omega)
  have e2 : (⟨(colAt h d).val % 64, by omega⟩ : Fin 64) = d := Fin.ext (by show (h.val * 64 + d.val) % 64 = d.val; omega)
  rw [e1, e2, context_apply]
  unfold rowsOf
  simp only [rope_apply cos sin htab rot hrot, truncf_apply, projQ_apply, projK_apply, projV_apply]
  rfl

end Cert.KernelIdeal.Ring

end
-- ==== Proof.Table.lean ====
/-
# The table of the rotation

The program holds its 256 × 256 rotation as a table of words in row-major order. Here the table is read at a row and a
column.
-/
module

public import proofs.«01_k».proof.KernelIdeal
public import Mathlib.Tactic.FinCases

@[expose] public section

set_option maxRecDepth 16384

noncomputable section

namespace Cert.KernelIdeal.Ring

open Cert.KernelIdeal

/-- The word at row `k` and column `c`: -1 just below the diagonal in an even column, 1 just above it in an odd one. -/
def word (k c : ℕ) : BitVec 32 :=
  if c % 2 = 0 then (if k = c + 1 then 0xBF800000#32 else 0#32) else (if k + 1 = c then 0x3F800000#32 else 0#32)

set_option maxHeartbeats 8000000 in
theorem entry_rows : ∀ q s : Fin 16, ∀ c : Fin 256, lit0t ((q.val * 16 + s.val) * 256 + c.val) = word (q.val * 16 + s.val) c.val := by
  intro q
  fin_cases q <;> decide +kernel

theorem entry (k c : Fin 256) : lit0t (k.val * 256 + c.val) = word k.val c.val := by
  have h := entry_rows ⟨k.val / 16, by omega⟩ ⟨k.val % 16, by omega⟩ c
  have e : k.val / 16 * 16 + k.val % 16 = k.val := by omega
  simpa only [e] using h

end Cert.KernelIdeal.Ring

end
-- ==== Proof.Operands.lean ====
/-
# What the kernel's operands hold

The arrays the program hands its kernel, named step by step and read at an index: the input rows, the weight block, the
two tables and the rotation.
-/
module

public import proofs.«01_k».proof.Proof.ChunkValue
public import proofs.«01_k».proof.Proof.Table
public import proofs.«01_k».proof.Proof.Region
public import Idealize.ShloMosaic.Lib.Pipeline.ValueKit

@[expose] public section

set_option maxRecDepth 16384

noncomputable section

namespace Cert.KernelIdeal.Ring

open Cert.KernelIdeal Cert.KernelIdeal.Gen
open Idealize.ShloMosaic Idealize.SL.Sem

variable {F : FTy → Type} [FloatOps F]

/-- The angle of each position in each pair of coordinates. -/
def angles : FVec F S256x32 .f32 :=
  mulf (broadcastInDim S256x32 ![0, 1] bcast_S256x1_S256x32_0_1 (sitofp .f32 (broadcastInDim S256x1 ![0] bcast_S256_S256x1_0 (iotaInDim S256 32 0))))
    (broadcastInDim S256x32 ![0, 1] bcast_S1x32_S256x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32))
            (muli (broadcastInDim S32 ![] bcast_S_S32 (constantI S_ 32 2#32)) (iotaInDim S32 32 0))))
            (broadcastInDim S32 ![] bcast_S_S32 (constant S_ .f32 0x42800000#32)))))))

/-- A table over positions and pairs, spread over both coordinates of each pair and over batch rows and heads. -/
def spread (f : FVec F S256x32 .f32) : FVec F S512x256 .f32 :=
  shapeCast S512x256 (broadcastInDim S2x256x4x64 ![0, 1, 2, 3] bcast_S1x256x1x64_S2x256x4x64_0_1_2_3
    (shapeCast S1x256x1x64 (shapeCast S256x64 (broadcastInDim S256x32x2 ![0, 1] bcast_S256x32_S256x32x2_0_1 f) shapeCasts_S256x32x2_S256x64)
      shapeCasts_S256x64_S1x256x1x64)) shapeCasts_S2x256x4x64_S512x256

/-- The rotation. -/
def rotation : FVec F S256x256 .bf16 :=
  truncf .bf16 (fun i => FloatOps.ofBits .f32 (lit0 (S256x256.rowMajor i)) : FVec F S256x256 .f32) bitsLt_bf16_f32

/-- The weight block: the three projections side by side, the output projection below them. -/
def blob (wq wk wv : FVec F S768x256 .bf16) (wo : FVec F S256x768 .bf16) : FVec F S1024x768 .bf16 :=
  concatenate S1024x768 0 [⟨S768x768, concatenate S768x768 1 [⟨S768x256, wq⟩, ⟨S768x256, wk⟩, ⟨S768x256, wv⟩] concatenates_S768x256_S768x256_S768x256_S768x768_d1⟩,
    ⟨S256x768, wo⟩] concatenates_S768x768_S256x768_S1024x768_d0

theorem angles_apply (i : Fin 256) (p : Fin 32) : angles (F := Ideal) (ix2 i p) = Attend.angle i p := by
  pointwise [angles]
  rfl

theorem spread_apply (f : FVec Ideal S256x32 .f32) (b : Fin 2) (i : Fin 256) (h : Fin 4) (d : Fin 64) :
    spread f (ix2 (rowAt b i) (colAt h d)) = f (ix2 i (Attend.pairOf d)) := by
  pointwise [spread]
  exact congrArg f (congrArg₂ ix2 (Fin.ext (by show (b.val * 256 + i.val) % 256 = i.val; omega)) (Fin.ext (by show (h.val * 64 + d.val) % 64 / 2 = d.val / 2; omega)))

theorem blob_q (wq wk wv : FVec Ideal S768x256 .bf16) (wo : FVec Ideal S256x768 .bf16) (e : Fin 768) (c : Fin 256) :
    blob wq wk wv wo (ix2 ⟨e.val, by omega⟩ ⟨0 + c.val, by omega⟩) = wq (ix2 e c) := by
  pointwise [blob]
theorem blob_k (wq wk wv : FVec Ideal S768x256 .bf16) (wo : FVec Ideal S256x768 .bf16) (e : Fin 768) (c : Fin 256) :
    blob wq wk wv wo (ix2 ⟨e.val, by omega⟩ ⟨256 + c.val, by omega⟩) = wk (ix2 e c) := by
  pointwise [blob]
theorem blob_v (wq wk wv : FVec Ideal S768x256 .bf16) (wo : FVec Ideal S256x768 .bf16) (e : Fin 768) (c : Fin 256) :
    blob wq wk wv wo (ix2 ⟨e.val, by omega⟩ ⟨512 + c.val, by omega⟩) = wv (ix2 e c) := by
  pointwise [blob]
  rw [dif_neg (by omega), dif_neg (by omega)]
  exact congrArg (fun c => wv (ix2 e c)) (Fin.ext (by show 512 + c.val - 256 - 256 = c.val; omega))
theorem blob_o (wq wk wv : FVec Ideal S768x256 .bf16) (wo : FVec Ideal S256x768 .bf16) (k : Fin 256) (n : Fin 768) :
    blob wq wk wv wo (ix2 ⟨768 + k.val, by omega⟩ n) = wo (ix2 k n) := by
  pointwise [blob]

/-- The word of the least float the rotation holds. -/
theorem minus_one : Ideal.ofBits .f32 0xBF800000#32 = (-1 : EReal) := by
  have h : (-1 : EReal) = ((-1 : ℝ) : EReal) := by norm_num
  rw [h]
  simp [Ideal.ofBits, Ideal.ieee, -EReal.coe_mul, -EReal.coe_neg]
  norm_num
theorem rotation_apply : IsRotation (rotation (F := Ideal)) := by
  intro k c
  have h : (S256x256.rowMajor (ix2 k c)).val = k.val * 256 + c.val := Shape.rowMajor_val_two _
  show Ideal.ofBits .f32 (lit0t (S256x256.rowMajor (ix2 k c)).val) = _
  rw [h, entry]
  unfold word
  split_ifs <;> simp only [minus_one, Ideal.ofBits_one_f32, Ideal.ofBits_zero_f32]

variable (m : (ℓ : Loc nD τ sig) → Buf (Elt F) ℓ) (c : Dev nD)

/-! ## What the program hands over -/

set_option maxHeartbeats 2000000 in
theorem V_rows : V m c main_v1 = shapeCast S512x768 (m ((c.tc : Thread nD τ).loc main_arg0)) shapeCasts_S2x256x768_S512x768 := by
  unfold V V0
  simp only [hostOps0, List.flatten_cons, List.flatten_nil, List.append_nil, List.cons_append, List.nil_append]
  after_results_simp
  rfl

set_option maxHeartbeats 2000000 in
theorem V_blob : V m c main_v3 = blob (m ((c.tc : Thread nD τ).loc main_arg1)) (m ((c.tc : Thread nD τ).loc main_arg2))
    (m ((c.tc : Thread nD τ).loc main_arg3)) (m ((c.tc : Thread nD τ).loc main_arg4)) := by
  unfold V V0
  simp only [hostOps0, List.flatten_cons, List.flatten_nil, List.append_nil, List.cons_append, List.nil_append]
  after_results_simp
  rfl

set_option maxHeartbeats 2000000 in
theorem V_cosines : V m c main_v31 = spread (Host.cos angles) := by
  unfold V V0
  simp only [hostOps0, List.flatten_cons, List.flatten_nil, List.append_nil, List.cons_append, List.nil_append]
  after_results_simp
  rfl

set_option maxHeartbeats 2000000 in
theorem V_sines : V m c main_v34 = spread (Host.sin angles) := by
  unfold V V0
  simp only [hostOps0, List.flatten_cons, List.flatten_nil, List.append_nil, List.cons_append, List.nil_append]
  after_results_simp
  rfl

set_option maxHeartbeats 2000000 in
theorem V_rotation : V m c main_v35 = rotation := by
  unfold V V0
  simp only [hostOps0, List.flatten_cons, List.flatten_nil, List.append_nil, List.cons_append, List.nil_append]
  after_results_simp
  rfl

/-! ## What the kernel reads -/

/-- The one point has one block in every array. -/
theorem only_block : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

theorem iblk_rows : iblk m c 0 t0_0 = V m c main_v1 := by blk_ext! [iblk, only_block t0_0]
theorem iblk_blob : iblk m c 1 t0_0 = V m c main_v3 := by blk_ext! [iblk, only_block t0_0]
theorem iblk_cosines : iblk m c 2 t0_0 = V m c main_v31 := by blk_ext! [iblk, only_block t0_0]
theorem iblk_sines : iblk m c 3 t0_0 = V m c main_v34 := by blk_ext! [iblk, only_block t0_0]
theorem iblk_rotation : iblk m c 4 t0_0 = V m c main_v35 := by blk_ext! [iblk, only_block t0_0]

theorem staged_rows : k0_pay1 (iblk m c 0 t0_0) = V m c main_v1 := (shapeCast_self _ _).trans (iblk_rows m c)
theorem staged_cosines : k0_pay2 (iblk m c 2 t0_0) = V m c main_v31 := (shapeCast_self _ _).trans (iblk_cosines m c)
theorem staged_sines : k0_pay3 (iblk m c 3 t0_0) = V m c main_v34 := (shapeCast_self _ _).trans (iblk_sines m c)
theorem staged_rotation : k0_pay4 (iblk m c 4 t0_0) = V m c main_v35 := (shapeCast_self _ _).trans (iblk_rotation m c)

theorem block_gathered : block (gathered m) c = V m c main_v3 := by
  unfold block
  rw [← loaded_gathered]
  exact (shapeCast_shapeCast _ _ _).trans ((shapeCast_self _ _).trans (iblk_blob m c))

end Cert.KernelIdeal.Ring

end
-- ==== Proof.Total.lean ====
/-
# What a device ends with, at an index

The ring's contributions add up, in whatever order they come, to the sum over all weight blocks; and the result is the
staged output by batch row and position.
-/
module

public import proofs.«01_k».proof.Proof.Operands
public import proofs.«01_k».proof.Proof.Frames

@[expose] public section

set_option maxRecDepth 16384

noncomputable section

namespace Cert.KernelIdeal.Ring

open Cert.KernelIdeal Cert.KernelIdeal.Gen
open Idealize.ShloMosaic Idealize.SL.Sem
open Idealize.ShloMosaic.TcCoe

section Sum

variable (G : Blocks Ideal) (c : Dev nD) (x : FVec Ideal S512x768 .bf16) (cos sin : FVec Ideal S512x256 .f32) (rot : FVec Ideal S256x256 .bf16)

theorem more_apply (a : FVec Ideal S512x768 .f32) (j : Fin 16) (p : S512x768.Idx) :
    more G x cos sin rot a j p = a p + contrib x cos sin rot (block G j) p := by
  unfold more
  rw [shapeCast_self, addf_apply]
  rfl

theorem run_apply (l : List (Fin 15)) (p : S512x768.Idx) : ∀ a : FVec Ideal S512x768 .f32,
    l.foldl (fun a k => more G x cos sin rot a (land k c)) a p = a p + (l.map fun k => contrib x cos sin rot (block G (land k c)) p).sum := by
  induction l with
  | nil => intro a; rw [List.foldl_nil, List.map_nil, List.sum_nil, add_zero]
  | cons k l ih => intro a; rw [List.foldl_cons, ih, more_apply, List.map_cons, List.sum_cons, add_assoc]

/-- A device's own block and those that come to it are all the blocks. -/
theorem all_blocks : ∀ c : Fin 16, Function.Bijective (Fin.cases c (fun k : Fin 15 => land k c) : Fin 16 → Fin 16) := by
  intro c
  rw [Fintype.bijective_iff_injective_and_card]
  exact ⟨(by decide +kernel : ∀ c : Fin 16, ∀ a b : Fin 16, (Fin.cases c (fun k : Fin 15 => land k c) a : Fin 16) = Fin.cases c (fun k : Fin 15 => land k c) b → a = b) c, rfl⟩

theorem result_apply (p : S512x768.Idx) : result G c x cos sin rot p = ∑ j : Fin 16, contrib x cos sin rot (block G j) p := by
  unfold result
  rw [run_apply, show ([0, 1, 2, 3, 4, 5, 6, 7, 8, 9, 10, 11, 12, 13, 14] : List (Fin 15)) = List.finRange 15 from by decide,
    ← (all_blocks c).sum_comp, Fin.sum_univ_succ, ← List.ofFn_eq_map, List.sum_ofFn]
  unfold first
  rw [shapeCast_self]
  rfl

end Sum

/-! ## The result buffer -/

section End

variable {F : FTy → Type} [FloatOps F]
variable (m : (ℓ : Loc nD τ sig) → Buf (Elt F) ℓ) (c : Dev nD)

theorem out_block : ∀ t : Fin cfg0.N, win0_5.index t = ![0, 0] :=
  (by decide +kernel : ∀ t : Fin grid0.N, _)

theorem arr_output : (dat m c).arrAt 5 cfg0.N = output m c := by
  refine (dat m c).arrAt_eq_of_after_last 5 t0_0 (by decide +kernel) _ fun j => ?_
  blk_simp [out_block t0_0]
  rfl

theorem end_result : end' m c main_v37 = shapeCast S2x256x768 (output m c) shapeCasts_S512x768_S2x256x768 := by
  unfold end' hostOps1
  rw [StableHlo.after_cons, StableHlo.after_nil, StableHlo.reshape_result]
  have h : W' m c (Proc.devRef .tc main_v36) = output m c := (Pipeline.afterRegion_arr (dat m c) (V0 m c) launch0.win.arr_inj 5).trans (arr_output m c)
  rw [h]
  rfl

end End

/-! ## The sum over devices -/

variable (m : (ℓ : Loc nD τ sig) → Buf (Elt Ideal) ℓ) (c : Dev nD)

theorem staged_tables : Tables (k0_pay2 (iblk m c 2 t0_0)) (k0_pay3 (iblk m c 3 t0_0)) := by
  rw [staged_cosines, staged_sines, V_cosines, V_sines]
  constructor <;> intro b i h d <;> rw [spread_apply, ← angles_apply] <;> rfl

theorem staged_isRotation : IsRotation (k0_pay4 (iblk m c 4 t0_0)) := by
  rw [staged_rotation, V_rotation]
  exact rotation_apply

/-- Head `h` of device `j`'s weights over device `c`'s batch row `b`. -/
def headAt' (j : Dev nD) (b : Fin 2) (h : Fin 4) : Attend.Rows :=
  Attend.head (fun i e => (m ((c.tc : Thread nD τ).loc main_arg0) : FVec Ideal S2x256x768 .bf16) (ix3 b i e))
    (fun e d => (m ((j.tc : Thread nD τ).loc main_arg1) : FVec Ideal S768x256 .bf16) (ix2 e (colAt h d)))
    (fun e d => (m ((j.tc : Thread nD τ).loc main_arg2) : FVec Ideal S768x256 .bf16) (ix2 e (colAt h d)))
    (fun e d => (m ((j.tc : Thread nD τ).loc main_arg3) : FVec Ideal S768x256 .bf16) (ix2 e (colAt h d)))

theorem rows_apply (x : FVec Ideal S2x256x768 .bf16) (b : Fin 2) (i : Fin 256) (e : Fin 768) :
    shapeCast S512x768 x shapeCasts_S2x256x768_S512x768 (ix2 (rowAt b i) e) = x (ix3 b i e) := by
  pointwise
  exact congrArg₂ (fun b i => x (ix3 b i e)) (Fin.ext (by show (b.val * 256 + i.val) / 256 = b.val; omega)) (Fin.ext (by show (b.val * 256 + i.val) % 256 = i.val; omega))

theorem head_eq (j : Dev nD) (b : Fin 2) (h : Fin 4) : headOf (V m c main_v1) (V m j main_v3) b h = headAt' m c j b h := by
  unfold headOf headAt' headCols
  rw [V_rows, V_blob]
  congr 1 <;> funext e d
  · exact rows_apply _ b e d
  · exact blob_q _ _ _ _ e (colAt h d)
  · exact blob_k _ _ _ _ e (colAt h d)
  · exact blob_v _ _ _ _ e (colAt h d)

theorem result_at (b : Fin 2) (i : Fin 256) (n : Fin 768) :
    shapeCast S2x256x768 (output m c) shapeCasts_S512x768_S2x256x768 (ix3 b i n)
      = ∑ j : Fin 16, ∑ k : Fin 256, headAt' m c j b ⟨k.val / 64, by omega⟩ i ⟨k.val % 64, by omega⟩
          * (m ((Dev.tc (nD := nD) (τ := τ) j).loc main_arg4) : FVec Ideal S256x768 .bf16) (ix2 k n) := by
  have h : shapeCast S2x256x768 (output m c) shapeCasts_S512x768_S2x256x768 (ix3 b i n) = output m c (ix2 (rowAt b i) n) := by
    pointwise
  rw [h]
  unfold output outcome
  rw [result_apply]
  refine Finset.sum_congr rfl fun j _ => ?_
  rw [contrib_apply _ _ _ (staged_tables m c) _ (staged_isRotation m c), block_gathered, staged_rows]
  refine Finset.sum_congr rfl fun k _ => ?_
  rw [head_eq, V_blob, blob_o]

end Cert.KernelIdeal.Ring

end
-- ==== Proof.Plain.lean ====
/-
# The reference's result at an index

The reference's value, named step by step, and what it holds at batch row `b`, position `i`, column `n`: the heads'
outputs at that position, all 4096 coordinates of them, against column `n` of the output projection.
-/
module
public import proofs.«01_k».proof.Proof.Gen.ReferenceIdeal.Run
public import proofs.«01_k».proof.Proof.Attend
@[expose] public section
set_option maxRecDepth 16384
noncomputable section
namespace Cert.ReferenceIdeal.Plain
open Cert.ReferenceIdeal Cert.ReferenceIdeal.Gen Cert.ReferenceIdeal.Value
open Idealize.ShloMosaic Idealize.SL.Sem

variable {F : FTy → Type} [FloatOps F]

/-- The angle of each position in each pair of coordinates. -/
def angles : FVec F S256x32 .f32 :=
  mulf (broadcastInDim S256x32 ![0, 1] bcast_S256x1_S256x32_0_1 (sitofp .f32 (broadcastInDim S256x1 ![0] bcast_S256_S256x1_0 (iotaInDim S256 32 0))))
    (broadcastInDim S256x32 ![0, 1] bcast_S1x32_S256x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32))
            (muli (broadcastInDim S32 ![] bcast_S_S32 (constantI S_ 32 2#32)) (iotaInDim S32 32 0))))
            (broadcastInDim S32 ![] bcast_S_S32 (constant S_ .f32 0x42800000#32)))))))

/-- A table over positions and pairs, spread over both coordinates of each pair and over batch rows and heads. -/
def table (f : FVec F S256x32 .f32) : FVec F S32x256x64x64 .f32 :=
  broadcastInDim S32x256x64x64 ![0, 1, 2, 3] bcast_S1x256x1x64_S32x256x64x64_0_1_2_3
    (broadcastInDim S1x256x1x64 ![1, 3] bcast_S256x64_S1x256x1x64_1_3
      (shapeCast S256x64 (broadcastInDim S256x32x2 ![0, 1] bcast_S256x32_S256x32x2_0_1 f) shapeCasts_S256x32x2_S256x64))

/-- A projection, cut into heads. -/
def proj (x : FVec F S32x256x768 .bf16) (w : FVec F S768x4096 .bf16) : FVec F S32x256x64x64 .f32 :=
  shapeCast S32x256x64x64 (extf .f32 (truncf .bf16 (Host.dotGeneral dot_S32x256x768_S768x4096_S32x256x4096_2_0_01_1_n_n none
    (extf .f32 x bitsLt_bf16_f32) (extf .f32 w bitsLt_bf16_f32)) bitsLt_bf16_f32) bitsLt_bf16_f32) shapeCasts_S32x256x4096_S32x256x64x64

/-- The two coordinates of each pair exchanged, the one that comes first negated. -/
def swapped (t : FVec F S32x256x64x64 .f32) : FVec F S32x256x64x64 .f32 :=
  have p : FVec F S32x256x64x32x2 .f32 := shapeCast S32x256x64x32x2 t shapeCasts_S32x256x64x64_S32x256x64x32x2
  shapeCast S32x256x64x64 (fn_main_v42
    (broadcastInDim S32x256x64x32x1 ![0, 1, 2, 3] bcast_S32x256x64x32_S32x256x64x32x1_0_1_2_3
      (Host.negf (shapeCast S32x256x64x32 (extractStridedSlice S32x256x64x32x1 ![0, 0, 0, 0, 1] p slices_S32x256x64x32x2_S32x256x64x32x1_0_0_0_0_1) shapeCasts_S32x256x64x32x1_S32x256x64x32)))
    (broadcastInDim S32x256x64x32x1 ![0, 1, 2, 3] bcast_S32x256x64x32_S32x256x64x32x1_0_1_2_3
      (shapeCast S32x256x64x32 (extractStridedSlice S32x256x64x32x1 ![0, 0, 0, 0, 0] p slices_S32x256x64x32x2_S32x256x64x32x1_0_0_0_0_0) shapeCasts_S32x256x64x32x1_S32x256x64x32)))
    shapeCasts_S32x256x64x32x2_S32x256x64x64

/-- Queries or keys turned by their angles. -/
def turned (t : FVec F S32x256x64x64 .f32) : FVec F S32x256x64x64 .f32 :=
  addf (mulf t (table (Host.cos angles))) (mulf (swapped t) (table (Host.sin angles)))

/-- The scaled scores. -/
def scores (q k : FVec F S32x256x64x64 .f32) : FVec F S32x64x256x256 .f32 :=
  mulf (Host.dotGeneral dot_S32x256x64x64_S32x256x64x64_S32x64x256x256_3_3_1_1_02_02 none q k)
    (broadcastInDim S32x64x256x256 ![] bcast_S_S32x64x256x256 (constant S_ .f32 0x3E000000#32))

/-- A value for each row of scores, along the row. -/
def along (v : FVec F S32x64x256 .f32) : FVec F S32x64x256x256 .f32 :=
  broadcastInDim S32x64x256x256 ![0, 1, 2, 3] bcast_S32x64x256x1_S32x64x256x256_0_1_2_3
    (broadcastInDim S32x64x256x1 ![0, 1, 2] bcast_S32x64x256_S32x64x256x1_0_1_2 v)

/-- The exponentials of the scores, each row shifted by its maximum. -/
def expShift (s : FVec F S32x64x256x256 .f32) : FVec F S32x64x256x256 .f32 :=
  Host.exp (subf s (along (Host.reduce FloatOps.maximumf s (constant S_ .f32 0xFF800000#32) reducesTo_S32x64x256x256_S32x64x256_d3 h_S_)))

/-- Each row divided by its sum. -/
def normalise (e : FVec F S32x64x256x256 .f32) : FVec F S32x64x256x256 .f32 :=
  Host.divf e (along (Host.reduceAdd e (constant S_ .f32 0x00000000#32) reducesTo_S32x64x256x256_S32x64x256_d3 h_S_))

/-- The weighted values, head beside head. -/
def context (w : FVec F S32x64x256x256 .f32) (v : FVec F S32x256x64x64 .f32) : FVec F S32x256x64x64 .f32 :=
  transpose S32x256x64x64 [0, 3, 1, 2] (Host.dotGeneral dot_S32x256x64x64_S32x64x256x256_S32x64x64x256_1_3_3_2_02_01 none v w) transposes_S32x64x64x256_S32x256x64x64_0_3_1_2

/-- All heads. -/
def attention (x : FVec F S32x256x768 .bf16) (wq wk wv : FVec F S768x4096 .bf16) : FVec F S32x256x64x64 .f32 :=
  context (normalise (expShift (scores (turned (proj x wq)) (turned (proj x wk))))) (proj x wv)

/-- The result. -/
def whole (x : FVec F S32x256x768 .bf16) (wq wk wv : FVec F S768x4096 .bf16) (wo : FVec F S4096x768 .bf16) : FVec F S32x256x768 .f32 :=
  Host.dotGeneral dot_S32x256x4096_S4096x768_S32x256x768_2_0_01_1_n_n none
    (shapeCast S32x256x4096 (attention x wq wk wv) shapeCasts_S32x256x64x64_S32x256x4096) (extf .f32 wo bitsLt_bf16_f32)

set_option maxHeartbeats 4000000 in
theorem res_eq (m : (ℓ : Loc nD τ sig) → Buf (Elt F) ℓ) (c : Dev nD) :
    res_main_v91 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## At an index -/

theorem angles_apply (i : Fin 256) (p : Fin 32) : angles (F := Ideal) (ix2 i p) = Attend.angle i p := by
  pointwise [angles]
  rfl

theorem table_apply (f : FVec Ideal S256x32 .f32) (b : Fin 32) (i : Fin 256) (h d : Fin 64) :
    table f (ix4 b i h d) = f (ix2 i (Attend.pairOf d)) := by
  pointwise [table]
  rfl

theorem proj_apply (x : FVec Ideal S32x256x768 .bf16) (w : FVec Ideal S768x4096 .bf16) (b : Fin 32) (i : Fin 256) (h d : Fin 64) :
    proj x w (ix4 b i h d) = Attend.cols (fun i e => x (ix3 b i e)) (fun e d => w (ix2 e ⟨h.val * 64 + d.val, by omega⟩)) i d := by
  pointwise [proj]
  rfl

theorem swapped_apply (t : FVec Ideal S32x256x64x64 .f32) (b : Fin 32) (i : Fin 256) (h d : Fin 64) :
    swapped t (ix4 b i h d) = Attend.swap (fun d => t (ix4 b i h d)) d := by
  pointwise [swapped, fn_main_v42]
  rfl

theorem cosines_apply (b : Fin 32) (i : Fin 256) (h d : Fin 64) :
    table (F := Ideal) (Host.cos angles) (ix4 b i h d) = Ideal.cos (Attend.angle i (Attend.pairOf d)) := by
  rw [table_apply, ← angles_apply]
  rfl

theorem sines_apply (b : Fin 32) (i : Fin 256) (h d : Fin 64) :
    table (F := Ideal) (Host.sin angles) (ix4 b i h d) = Ideal.sin (Attend.angle i (Attend.pairOf d)) := by
  rw [table_apply, ← angles_apply]
  rfl

theorem turned_apply (t : FVec Ideal S32x256x64x64 .f32) (b : Fin 32) (i : Fin 256) (h d : Fin 64) :
    turned t (ix4 b i h d) = Attend.turn (fun i d => t (ix4 b i h d)) i d := by
  unfold turned Attend.turn
  rw [addf_apply, mulf_apply, mulf_apply, cosines_apply, sines_apply, swapped_apply]
  rfl

theorem scores_apply (q k : FVec Ideal S32x256x64x64 .f32) (b : Fin 32) (i j : Fin 256) (h : Fin 64) :
    scores q k (ix4 b h i j) = Attend.score (fun i d => q (ix4 b i h d)) (fun i d => k (ix4 b i h d)) i j := by
  pointwise [scores]
  rfl

theorem expShift_apply (s : FVec Ideal S32x64x256x256 .f32) (b : Fin 32) (i j : Fin 256) (h : Fin 64) :
    expShift s (ix4 b h i j) = Ideal.exp (s (ix4 b h i j) - Attend.top (fun j => s (ix4 b h i j))) := by
  pointwise [expShift, along]
  rfl

theorem weights_apply (s : FVec Ideal S32x64x256x256 .f32) (b : Fin 32) (i j : Fin 256) (h : Fin 64) :
    normalise (expShift s) (ix4 b h i j) = Attend.weight (fun j => s (ix4 b h i j)) j := by
  pointwise [normalise, along]
  simp only [expShift_apply]
  rfl

theorem context_apply (w : FVec Ideal S32x64x256x256 .f32) (v : FVec Ideal S32x256x64x64 .f32) (b : Fin 32) (i : Fin 256) (h d : Fin 64) :
    context w v (ix4 b i h d) = ∑ j : Fin 256, w (ix4 b h i j) * v (ix4 b j h d) := by
  pointwise [context]
  exact Finset.sum_congr rfl fun j _ => mul_comm _ _

/-- Head `h` of batch row `b`. -/
def headOf (x : FVec Ideal S32x256x768 .bf16) (wq wk wv : FVec Ideal S768x4096 .bf16) (b : Fin 32) (h : Fin 64) : Attend.Rows :=
  Attend.head (fun i e => x (ix3 b i e)) (fun e d => wq (ix2 e ⟨h.val * 64 + d.val, by omega⟩))
    (fun e d => wk (ix2 e ⟨h.val * 64 + d.val, by omega⟩)) (fun e d => wv (ix2 e ⟨h.val * 64 + d.val, by omega⟩))

theorem attention_apply (x : FVec Ideal S32x256x768 .bf16) (wq wk wv : FVec Ideal S768x4096 .bf16) (b : Fin 32) (i : Fin 256) (h d : Fin 64) :
    attention x wq wk wv (ix4 b i h d) = headOf x wq wk wv b h i d := by
  unfold attention
  simp only [context_apply, weights_apply, scores_apply, turned_apply, proj_apply]
  rfl

/-- The result at an index. -/
theorem whole_apply (x : FVec Ideal S32x256x768 .bf16) (wq wk wv : FVec Ideal S768x4096 .bf16) (wo : FVec Ideal S4096x768 .bf16) (b : Fin 32) (i : Fin 256) (n : Fin 768) :
    whole x wq wk wv wo (ix3 b i n) = ∑ m : Fin 4096, headOf x wq wk wv b ⟨m.val / 64, by omega⟩ i ⟨m.val % 64, by omega⟩ * wo (ix2 m n) := by
  pointwise [whole]
  simp only [attention_apply]

end Cert.ReferenceIdeal.Plain

end
-- ==== Proof.Agree.lean ====
/-
# The kernel's result is the reference's

Device `j`'s blocks of the projections hold heads `4 j` to `4 j + 3`, and its rows of the output projection are those
heads' coordinates. So the sum over devices, and over the coordinates of each device's heads, is the reference's sum
over the coordinates of all heads.
-/
module

public import proofs.«01_k».proof.Proof.Total
public import proofs.«01_k».proof.Proof.Plain

@[expose] public section

set_option maxRecDepth 16384

noncomputable section

namespace Cert.Agree

open Idealize.ShloMosaic Idealize.SL.Sem

/-- A device's block of batch rows. -/
theorem rows_block (c : Fin 16) (v : (⟨3, ![32, 256, 768]⟩ : Shape).Idx → EReal) (b : Fin 2) (i : Fin 256) (e : Fin 768) :
    Layout.block ⟨3, ![2, 256, 768]⟩ ⟨3, ![32, 256, 768]⟩ 0 16 c v (by decide) (ix3 b i e) = v (ix3 ⟨c.val * 2 + b.val, by omega⟩ i e) := by
  rw [Layout.block_apply]
  refine congrArg v (funext fun a => Fin.ext ?_)
  match a with
  | ⟨0, _⟩ => rfl
  | ⟨1, _⟩ => rfl
  | ⟨2, _⟩ => rfl

/-- A device's columns of a projection. -/
theorem cols_block (c : Fin 16) (v : (⟨2, ![768, 4096]⟩ : Shape).Idx → EReal) (e : Fin 768) (k : Fin 256) :
    Layout.block ⟨2, ![768, 256]⟩ ⟨2, ![768, 4096]⟩ 1 16 c v (by decide) (ix2 e k) = v (ix2 e ⟨c.val * 256 + k.val, by omega⟩) := by
  rw [Layout.block_apply]
  refine congrArg v (funext fun a => Fin.ext ?_)
  match a with
  | ⟨0, _⟩ => rfl
  | ⟨1, _⟩ => rfl

/-- A device's rows of the output projection. -/
theorem out_block (c : Fin 16) (v : (⟨2, ![4096, 768]⟩ : Shape).Idx → EReal) (k : Fin 256) (n : Fin 768) :
    Layout.block ⟨2, ![256, 768]⟩ ⟨2, ![4096, 768]⟩ 0 16 c v (by decide) (ix2 k n) = v (ix2 ⟨c.val * 256 + k.val, by omega⟩ n) := by
  rw [Layout.block_apply]
  refine congrArg v (funext fun a => Fin.ext ?_)
  match a with
  | ⟨0, _⟩ => rfl
  | ⟨1, _⟩ => rfl

/-- A sum over all coordinates is one over devices and each device's. -/
theorem sum_devices (g : Fin 4096 → EReal) : ∑ m, g m = ∑ j : Fin 16, ∑ k : Fin 256, g ⟨j.val * 256 + k.val, by omega⟩ := by
  rw [← Fintype.sum_prod_type', ← (finProdFinEquiv (m := 16) (n := 256)).sum_comp g]
  exact Finset.sum_congr rfl fun p _ => congrArg g (Fin.ext (by
    show p.2.val + 256 * p.1.val = p.1.val * 256 + p.2.val
    omega))

open Cert.KernelIdeal in
/-- Device `j`'s head `h` is head `4 j + h`, and device `c`'s batch row `b` is batch row `2 c + b`. -/
theorem head_agree (m : (ℓ : Loc nD τ sig) → Buf (Elt Ideal) ℓ) (x : FVec Ideal ReferenceIdeal.S32x256x768 .bf16)
    (wq wk wv : FVec Ideal ReferenceIdeal.S768x4096 .bf16)
    (h0 : ∀ c : Dev nD, m ((c.tc : Thread nD τ).loc main_arg0) = Layout.block ⟨3, ![2, 256, 768]⟩ ⟨3, ![32, 256, 768]⟩ 0 16 c x)
    (h1 : ∀ c : Dev nD, m ((c.tc : Thread nD τ).loc main_arg1) = Layout.block ⟨2, ![768, 256]⟩ ⟨2, ![768, 4096]⟩ 1 16 c wq)
    (h2 : ∀ c : Dev nD, m ((c.tc : Thread nD τ).loc main_arg2) = Layout.block ⟨2, ![768, 256]⟩ ⟨2, ![768, 4096]⟩ 1 16 c wk)
    (h3 : ∀ c : Dev nD, m ((c.tc : Thread nD τ).loc main_arg3) = Layout.block ⟨2, ![768, 256]⟩ ⟨2, ![768, 4096]⟩ 1 16 c wv)
    (c j : Fin 16) (b : Fin 2) (h : Fin 4) (b' : Fin 32) (h' : Fin 64) (hb : b'.val = c.val * 2 + b.val) (hh : h'.val = j.val * 4 + h.val) :
    Ring.headAt' m c j b h = ReferenceIdeal.Plain.headOf x wq wk wv b' h' := by
  unfold Ring.headAt' ReferenceIdeal.Plain.headOf
  have place : ∀ (w : FVec Ideal ReferenceIdeal.S768x4096 .bf16) (e : Fin 768) (d : Fin 64),
      w (ix2 e ⟨j.val * 256 + (Ring.colAt h d).val, by omega⟩) = w (ix2 e ⟨h'.val * 64 + d.val, by omega⟩) := fun w e d =>
    congrArg (fun k => w (ix2 e k)) (Fin.ext (by show j.val * 256 + (h.val * 64 + d.val) = h'.val * 64 + d.val; omega))
  congr 1 <;> funext i e
  · exact (congrFun (h0 c) _).trans ((rows_block c x b i e).trans (congrArg (fun b => x (ix3 b i e)) (Fin.ext hb.symm)))
  · exact (congrFun (h1 j) _).trans ((cols_block j wq i (Ring.colAt h e)).trans (place wq i e))
  · exact (congrFun (h2 j) _).trans ((cols_block j wk i (Ring.colAt h e)).trans (place wk i e))
  · exact (congrFun (h3 j) _).trans ((cols_block j wv i (Ring.colAt h e)).trans (place wv i e))

open Cert.KernelIdeal Cert.KernelIdeal.Gen in
/-- What each device ends with is its block of the reference's result. -/
theorem agree (m : (ℓ : Loc nD τ sig) → Buf (Elt Ideal) ℓ) (x : FVec Ideal ReferenceIdeal.S32x256x768 .bf16)
    (wq wk wv : FVec Ideal ReferenceIdeal.S768x4096 .bf16) (wo : FVec Ideal ReferenceIdeal.S4096x768 .bf16)
    (h0 : ∀ c : Dev nD, m ((c.tc : Thread nD τ).loc main_arg0) = Layout.block ⟨3, ![2, 256, 768]⟩ ⟨3, ![32, 256, 768]⟩ 0 16 c x)
    (h1 : ∀ c : Dev nD, m ((c.tc : Thread nD τ).loc main_arg1) = Layout.block ⟨2, ![768, 256]⟩ ⟨2, ![768, 4096]⟩ 1 16 c wq)
    (h2 : ∀ c : Dev nD, m ((c.tc : Thread nD τ).loc main_arg2) = Layout.block ⟨2, ![768, 256]⟩ ⟨2, ![768, 4096]⟩ 1 16 c wk)
    (h3 : ∀ c : Dev nD, m ((c.tc : Thread nD τ).loc main_arg3) = Layout.block ⟨2, ![768, 256]⟩ ⟨2, ![768, 4096]⟩ 1 16 c wv)
    (h4 : ∀ c : Dev nD, m ((c.tc : Thread nD τ).loc main_arg4) = Layout.block ⟨2, ![256, 768]⟩ ⟨2, ![4096, 768]⟩ 0 16 c wo) (c : Fin 16) :
    shapeCast S2x256x768 (Ring.output m c) shapeCasts_S512x768_S2x256x768
      = Layout.block ⟨3, ![2, 256, 768]⟩ ⟨3, ![32, 256, 768]⟩ 0 16 c (ReferenceIdeal.Plain.whole x wq wk wv wo) := by
  funext y
  obtain ⟨b, i, n, rfl⟩ : ∃ (b : Fin 2) (i : Fin 256) (n : Fin 768), y = ix3 b i n := ⟨y 0, y 1, y 2, eq_ix3 y⟩
  rw [Ring.result_at]
  refine Eq.trans ?_ (rows_block c _ b i n).symm
  rw [ReferenceIdeal.Plain.whole_apply, sum_devices]
  refine Finset.sum_congr rfl fun j _ => Finset.sum_congr rfl fun k _ => ?_
  have hk := k.isLt
  rw [head_agree m x wq wk wv h0 h1 h2 h3 c j b ⟨k.val / 64, by omega⟩ ⟨c.val * 2 + b.val, by omega⟩ ⟨(j.val * 256 + k.val) / 64, by omega⟩ rfl
    (by show (j.val * 256 + k.val) / 64 = j.val * 4 + k.val / 64; omega)]
  refine congrArg₂ (· * ·) (congrArg _ (Fin.ext (by show k.val % 64 = (j.val * 256 + k.val) % 64; omega))) ?_
  exact (congrFun (h4 j) _).trans (out_block j wo k n)

end Cert.Agree

end
-- ==== Proof.lean ====
/-
# The proof of the certificate

The kernel's frames are in Frames.lean, the reference's run is generated, and Agree.lean has what the two results are.
-/
module

public import proofs.«01_k».proof.Defs
public import proofs.«01_k».proof.Proof.Frames
public import proofs.«01_k».proof.Proof.Agree
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => And.intro (fun c => (h c).2) (sem_eq_zero_of_no_sems (by decide) r.2))
    (Cert.ReferenceIdeal.Value.run (F := Ideal) m ρ)

/-- Each device's result is its block of the reference's. -/
theorem values : Cert.algebraic_KernelIdeal_ReferenceIdeal := by
  intro m ρ m' ρ' _ hargs
  refine ⟨Cert.ReferenceIdeal.Value.res_main_v91 m' 0, ?_, ?_⟩
  · refine (θ_run Cert.KernelIdeal.defs _ _).mono (fun r h c => ⟨(h.1 c).1.trans ?_, (h.1 c).2⟩) (Cert.KernelIdeal.Ring.run_main (F := Ideal) m ρ)
    rw [Cert.KernelIdeal.Ring.end_result, Cert.ReferenceIdeal.Plain.res_eq]
    exact Cert.Agree.agree m _ _ _ _ _ (fun c => (hargs c).1) (fun c => (hargs c).2.1) (fun c => (hargs c).2.2.1) (fun c => (hargs c).2.2.2.1)
      (fun c => (hargs c).2.2.2.2) c
  · exact (θ_run Cert.ReferenceIdeal.defs _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, values⟩

end Cert.Proof

end
